-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "removed" .f32 0xFF61B1E6#32 ⊥

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v433) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4x32x2048x12 : Shape := ⟨4, ![4, 32, 2048, 12]⟩
abbrev S4x3x2048x2048 : Shape := ⟨4, ![4, 3, 2048, 2048]⟩
abbrev S32x32 : Shape := ⟨2, ![32, 32]⟩
abbrev S32 : Shape := ⟨1, ![32]⟩
abbrev S32x128 : Shape := ⟨2, ![32, 128]⟩
abbrev S4x3x2048x41 : Shape := ⟨4, ![4, 3, 2048, 41]⟩
abbrev S_ : Shape := ⟨0, ![]⟩
abbrev S4x3x2048x40 : Shape := ⟨4, ![4, 3, 2048, 40]⟩

class Facts : Prop where
  sliceFits_S4x3x2048x2048_S4x3x2048x41 : S4x3x2048x2048.Slices (fun _ => 0) S4x3x2048x41
  bcast_S_S4x32x2048x12 : S_.BroadcastsInDim S4x32x2048x12 (![] : Fin 0 → Fin S4x32x2048x12.rank)
  bcast_S_S4x3x2048x2048 : S_.BroadcastsInDim S4x3x2048x2048 (![] : Fin 0 → Fin S4x3x2048x2048.rank)
  bcast_S_S32x32 : S_.BroadcastsInDim S32x32 (![] : Fin 0 → Fin S32x32.rank)
  bcast_S_S32 : S_.BroadcastsInDim S32 (![] : Fin 0 → Fin S32.rank)
  bcast_S_S32x128 : S_.BroadcastsInDim S32x128 (![] : Fin 0 → Fin S32x128.rank)
  slices_S4x3x2048x41_S4x3x2048x40_0_0_0_1 : S4x3x2048x41.Slices ![0, 0, 0, 1] S4x3x2048x40
  slices_S4x3x2048x41_S4x3x2048x40_0_0_0_0 : S4x3x2048x41.Slices ![0, 0, 0, 0] S4x3x2048x40

variable [Facts]

def fn_part2 {F : FTy → Type} [FloatOps F] (main_values : FVec F S4x3x2048x41 .f32) (main_v2 : IVec S4x32x2048x12 1) (main_v5 : IVec S4x3x2048x2048 1) (main_v8 : IVec S32x32 1) (main_v11 : IVec S32 1) (main_v14 : IVec S32x128 1) (main_v17 : IVec S32 1) (main_v20 : IVec S32x128 1) (main_v23 : IVec S32 1) (main_v26 : IVec S32x128 1) (main_v29 : IVec S32 1) (main_v32 : IVec S32x128 1) (main_v33 : FVec F S32 .f32) (main_cst_10 : FVec F S_ .f32) : IVec S4x32x2048x12 1 × IVec S4x3x2048x2048 1 × IVec S32x32 1 × IVec S32 1 × IVec S32x128 1 × IVec S32 1 × IVec S32x128 1 × IVec S32 1 × IVec S32x128 1 × IVec S32 1 × IVec S32x128 1 × IVec S32 1 × IVec S4x3x2048x40 1 :=
  let main_v34 : FVec F S32 .f32 := broadcastInDim S32 ![] bcast_S_S32 main_cst_10
  let main_v35 : IVec S32 1 := cmpf .olt main_v33 main_v34
  let main_v36 : FVec F S4x3x2048x40 .f32 := (extractStridedSlice S4x3x2048x40 ![0, 0, 0, 1] · slices_S4x3x2048x41_S4x3x2048x40_0_0_0_1) main_values
  let main_v37 : FVec F S4x3x2048x40 .f32 := (extractStridedSlice S4x3x2048x40 ![0, 0, 0, 0] · slices_S4x3x2048x41_S4x3x2048x40_0_0_0_0) main_values
  let main_v38 : IVec S4x3x2048x40 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S32x128 .f32) (main_arg7 : FVec F S32 .f32) (main_arg8 : FVec F S32x128 .f32) (main_arg9 : FVec F S32 .f32) (main_arg10 : FVec F S32x128 .f32) (main_arg11 : FVec F S32 .f32) (main_values : FVec F S4x3x2048x41 .f32) (main_v2 : IVec S4x32x2048x12 1) (main_v5 : IVec S4x3x2048x2048 1) (main_v8 : IVec S32x32 1) (main_v11 : IVec S32 1) (main_v14 : IVec S32x128 1) (main_v15 : FVec F S32 .f32) (main_cst_4 : FVec F S_ .f32) : IVec S4x32x2048x12 1 × IVec S4x3x2048x2048 1 × IVec S32x32 1 × IVec S32 1 × IVec S32x128 1 × IVec S32 1 × IVec S32x128 1 × IVec S32 1 × IVec S32x128 1 × IVec S32 1 × IVec S32x128 1 × IVec S32 1 × IVec S4x3x2048x40 1 :=
  let main_v16 : FVec F S32 .f32 := broadcastInDim S32 ![] bcast_S_S32 main_cst_4
  let main_v17 : IVec S32 1 := cmpf .olt main_v15 main_v16
  let main_v18 : FVec F S32x128 .f32 := Host.absf main_arg6
  let main_cst_5 : FVec F S_ .f32 := constant S_ .f32 0x7F800000#32
  let main_v19 : FVec F S32x128 .f32 := broadcastInDim S32x128 ![] bcast_S_S32x128 main_cst_5
  let main_v20 : IVec S32x128 1 := cmpf .olt main_v18 main_v19
  let main_v21 : FVec F S32 .f32 := Host.absf main_arg7
  let main_cst_6 : FVec F S_ .f32 := constant S_ .f32 0x7F800000#32
  let main_v22 : FVec F S32 .f32 := broadcastInDim S32 ![] bcast_S_S32 main_cst_6
  let main_v23 : IVec S32 1 := cmpf .olt main_v21 main_v22
  let main_v24 : FVec F S32x128 .f32 := Host.absf main_arg8
  let main_cst_7 : FVec F S_ .f32 := constant S_ .f32 0x7F800000#32
  let main_v25 : FVec F S32x128 .f32 := broadcastInDim S32x128 ![] bcast_S_S32x128 main_cst_7
  let main_v26 : IVec S32x128 1 := cmpf .olt main_v24 main_v25
  let main_v27 : FVec F S32 .f32 := Host.absf main_arg9
  let main_cst_8 : FVec F S_ .f32 := constant S_ .f32 0x7F800000#32
  let main_v28 : FVec F S32 .f32 := broadcastInDim S32 ![] bcast_S_S32 main_cst_8
  let main_v29 : IVec S32 1 := cmpf .olt main_v27 main_v28
  let main_v30 : FVec F S32x128 .f32 := Host.absf main_arg10
  let main_cst_9 : FVec F S_ .f32 := constant S_ .f32 0x7F800000#32
  let main_v31 : FVec F S32x128 .f32 := broadcastInDim S32x128 ![] bcast_S_S32x128 main_cst_9
  let main_v32 : IVec S32x128 1 := cmpf .olt main_v30 main_v31
  let main_v33 : FVec F S32 .f32 := Host.absf main_arg11
  let main_cst_10 : FVec F S_ .f32 := constant S_ .f32 0x7F800000#32
  fn_part2 (F := F) main_values main_v2 main_v5 main_v8 main_v11 main_v14 main_v17 main_v20 main_v23 main_v26 main_v29 main_v32 main_v33 main_cst_10

def fn {F : FTy → Type} [FloatOps F] (main_arg0 : FVec F S4x32x2048x12 .f32) (main_arg1 : FVec F S4x3x2048x2048 .f32) (main_arg2 : FVec F S32x32 .f32) (main_arg3 : FVec F S32 .f32) (main_arg4 : FVec F S32x128 .f32) (main_arg5 : FVec F S32 .f32) (main_arg6 : FVec F S32x128 .f32) (main_arg7 : FVec F S32 .f32) (main_arg8 : FVec F S32x128 .f32) (main_arg9 : FVec F S32 .f32) (main_arg10 : FVec F S32x128 .f32) (main_arg11 : FVec F S32 .f32) : IVec S4x32x2048x12 1 × IVec S4x3x2048x2048 1 × IVec S32x32 1 × IVec S32 1 × IVec S32x128 1 × IVec S32 1 × IVec S32x128 1 × IVec S32 1 × IVec S32x128 1 × IVec S32 1 × IVec S32x128 1 × IVec S32 1 × IVec S4x3x2048x40 1 :=
  let main_values : FVec F S4x3x2048x41 .f32 := (fun x => (Host.topK S4x3x2048x41 3 (FloatOps.cmpfTotal .gt) x sliceFits_S4x3x2048x2048_S4x3x2048x41).1) main_arg1
  let main_indices : IVec S4x3x2048x41 32 := (fun x => (Host.topK S4x3x2048x41 3 (FloatOps.cmpfTotal .gt) x sliceFits_S4x3x2048x2048_S4x3x2048x41).2) main_arg1
  let main_v0 : FVec F S4x32x2048x12 .f32 := Host.absf main_arg0
  let main_cst : FVec F S_ .f32 := constant S_ .f32 0x7F800000#32
  let main_v1 : FVec F S4x32x2048x12 .f32 := broadcastInDim S4x32x2048x12 ![] bcast_S_S4x32x2048x12 main_cst
  let main_v2 : IVec S4x32x2048x12 1 := cmpf .olt main_v0 main_v1
  let main_v3 : FVec F S4x3x2048x2048 .f32 := Host.absf main_arg1
  let main_cst_0 : FVec F S_ .f32 := constant S_ .f32 0x7F800000#32
  let main_v4 : FVec F S4x3x2048x2048 .f32 := broadcastInDim S4x3x2048x2048 ![] bcast_S_S4x3x2048x2048 main_cst_0
  let main_v5 : IVec S4x3x2048x2048 1 := cmpf .olt main_v3 main_v4
  let main_v6 : FVec F S32x32 .f32 := Host.absf main_arg2
  let main_cst_1 : FVec F S_ .f32 := constant S_ .f32 0x7F800000#32
  let main_v7 : FVec F S32x32 .f32 := broadcastInDim S32x32 ![] bcast_S_S32x32 main_cst_1
  let main_v8 : IVec S32x32 1 := cmpf .olt main_v6 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S32x128 .f32 := Host.absf main_arg4
  let main_cst_3 : FVec F S_ .f32 := constant S_ .f32 0x7F800000#32
  let main_v13 : FVec F S32x128 .f32 := broadcastInDim S32x128 ![] bcast_S_S32x128 main_cst_3
  let main_v14 : IVec S32x128 1 := cmpf .olt main_v12 main_v13
  let main_v15 : FVec F S32 .f32 := Host.absf main_arg5
  let main_cst_4 : FVec F S_ .f32 := constant S_ .f32 0x7F800000#32
  fn_part1 (F := F) main_arg6 main_arg7 main_arg8 main_arg9 main_arg10 main_arg11 main_values main_v2 main_v5 main_v8 main_v11 main_v14 main_v15 main_cst_4
-- ==== Kernel.lean ====
abbrev S4x32x2048x12 : Shape := ⟨4, ![4, 32, 2048, 12]⟩
abbrev S4x3x2048x2048 : Shape := ⟨4, ![4, 3, 2048, 2048]⟩
abbrev S32x32 : Shape := ⟨2, ![32, 32]⟩
abbrev S32 : Shape := ⟨1, ![32]⟩
abbrev S32x128 : Shape := ⟨2, ![32, 128]⟩
abbrev S12x12 : Shape := ⟨2, ![12, 12]⟩
abbrev S_ : Shape := ⟨0, ![]⟩
abbrev S32x1x32x1 : Shape := ⟨4, ![32, 1, 32, 1]⟩
abbrev S1x12x1x12 : Shape := ⟨4, ![1, 12, 1, 12]⟩
abbrev S32x12x32x12 : Shape := ⟨4, ![32, 12, 32, 12]⟩
abbrev S384x384 : Shape := ⟨2, ![384, 384]⟩
abbrev S1x384x384 : Shape := ⟨3, ![1, 384, 384]⟩
abbrev S4x384x384 : Shape := ⟨3, ![4, 384, 384]⟩
abbrev S1x4x384x384 : Shape := ⟨4, ![1, 4, 384, 384]⟩
abbrev S3x4x384x384 : Shape := ⟨4, ![3, 4, 384, 384]⟩
abbrev S32x1 : Shape := ⟨2, ![32, 1]⟩
abbrev S32x12 : Shape := ⟨2, ![32, 12]⟩
abbrev S384x1 : Shape := ⟨2, ![384, 1]⟩
abbrev S384x7 : Shape := ⟨2, ![384, 7]⟩
abbrev S384x392 : Shape := ⟨2, ![384, 392]⟩
abbrev S4x32x12x2048 : Shape := ⟨4, ![4, 32, 12, 2048]⟩
abbrev S4x384x2048 : Shape := ⟨3, ![4, 384, 2048]⟩
abbrev S4x1x2048 : Shape := ⟨3, ![4, 1, 2048]⟩
abbrev S4x7x2048 : Shape := ⟨3, ![4, 7, 2048]⟩
abbrev S4x392x2048 : Shape := ⟨3, ![4, 392, 2048]⟩
abbrev S1x1x512x2048 : Shape := ⟨4, ![1, 1, 512, 2048]⟩
abbrev S1x392x2048 : Shape := ⟨3, ![1, 392, 2048]⟩
abbrev S1x384x512 : Shape := ⟨3, ![1, 384, 512]⟩
abbrev S1x384x2048 : Shape := ⟨3, ![1, 384, 2048]⟩
abbrev S512x2048 : Shape := ⟨2, ![512, 2048]⟩
abbrev S512 : Shape := ⟨1, ![512]⟩
abbrev S512x1 : Shape := ⟨2, ![512, 1]⟩
abbrev S392x2048 : Shape := ⟨2, ![392, 2048]⟩
abbrev S384x2048 : Shape := ⟨2, ![384, 2048]⟩
abbrev S384x512 : Shape := ⟨2, ![384, 512]⟩
abbrev S1x1x384x384 : Shape := ⟨4, ![1, 1, 384, 384]⟩
abbrev S1x512 : Shape := ⟨2, ![1, 512]⟩

abbrev nBuf : Space → Nat
  | .hbm => 266
  | .vmem => 11
  | .smem => 0
  | _ => 0

abbrev hbmTy0_0 (i : Nat) : BufTy := match i % 128 with
  | 0 => ⟨S4x32x2048x12, .f32⟩
  | 1 => ⟨S4x3x2048x2048, .f32⟩
  | 2 => ⟨S32x32, .f32⟩
  | 3 => ⟨S32, .f32⟩
  | 4 => ⟨S32x128, .f32⟩
  | 5 => ⟨S32, .f32⟩
  | 6 => ⟨S32x128, .f32⟩
  | 7 => ⟨S32, .f32⟩
  | 8 => ⟨S32x128, .f32⟩
  | 9 => ⟨S32, .f32⟩
  | 10 => ⟨S32x128, .f32⟩
  | 11 => ⟨S32, .f32⟩
  | 12 => ⟨S32x32, .f32⟩
  | 13 => ⟨S32x32, .f32⟩
  | 14 => ⟨S32x32, .f32⟩
  | 15 => ⟨S32, .f32⟩
  | 16 => ⟨S32, .f32⟩
  | 17 => ⟨S32x32, .f32⟩
  | 18 => ⟨S32, .f32⟩
  | 19 => ⟨S32, .f32⟩
  | 20 => ⟨S32x32, .f32⟩
  | 21 => ⟨S32, .f32⟩
  | 22 => ⟨S32, .f32⟩
  | 23 => ⟨S32x32, .f32⟩
  | 24 => ⟨S32, .f32⟩
  | 25 => ⟨S32, .f32⟩
  | 26 => ⟨S32x32, .f32⟩
  | 27 => ⟨S32x32, .f32⟩
  | 28 => ⟨S32x32, .f32⟩
  | 29 => ⟨S12x12, .i32⟩
  | 30 => ⟨S12x12, .i32⟩
  | 31 => ⟨S_, .i32⟩
  | 32 => ⟨S12x12, .i32⟩
  | 33 => ⟨S12x12, .i32⟩
  | 34 => ⟨S12x12, .i1⟩
  | 35 => ⟨S12x12, .f32⟩
  | 36 => ⟨S32x1x32x1, .f32⟩
  | 37 => ⟨S1x12x1x12, .f32⟩
  | 38 => ⟨S32x12x32x12, .f32⟩
  | 39 => ⟨S32x12x32x12, .f32⟩
  | 40 => ⟨S32x12x32x12, .f32⟩
  | 41 => ⟨S384x384, .f32⟩
  | 42 => ⟨S32x32, .f32⟩
  | 43 => ⟨S32x32, .f32⟩
  | 44 => ⟨S32x32, .f32⟩
  | 45 => ⟨S12x12, .i32⟩
  | 46 => ⟨S12x12, .i32⟩
  | 47 => ⟨S_, .i32⟩
  | 48 => ⟨S12x12, .i32⟩
  | 49 => ⟨S12x12, .i32⟩
  | 50 => ⟨S12x12, .i1⟩
  | 51 => ⟨S12x12, .f32⟩
  | 52 => ⟨S32x1x32x1, .f32⟩
  | 53 => ⟨S1x12x1x12, .f32⟩
  | 54 => ⟨S32x12x32x12, .f32⟩
  | 55 => ⟨S32x12x32x12, .f32⟩
  | 56 => ⟨S32x12x32x12, .f32⟩
  | 57 => ⟨S384x384, .f32⟩
  | 58 => ⟨S32x32, .f32⟩
  | 59 => ⟨S32x32, .f32⟩
  | 60 => ⟨S32x32, .f32⟩
  | 61 => ⟨S12x12, .i32⟩
  | 62 => ⟨S12x12, .i32⟩
  | 63 => ⟨S_, .i32⟩
  | 64 => ⟨S12x12, .i32⟩
  | 65 => ⟨S12x12, .i32⟩
  | 66 => ⟨S12x12, .i1⟩
  | 67 => ⟨S12x12, .f32⟩
  | 68 => ⟨S32x1x32x1, .f32⟩
  | 69 => ⟨S1x12x1x12, .f32⟩
  | 70 => ⟨S32x12x32x12, .f32⟩
  | 71 => ⟨S32x12x32x12, .f32⟩
  | 72 => ⟨S32x12x32x12, .f32⟩
  | 73 => ⟨S384x384, .f32⟩
  | 74 => ⟨S32x32, .f32⟩
  | 75 => ⟨S32x32, .f32⟩
  | 76 => ⟨S32x32, .f32⟩
  | 77 => ⟨S12x12, .i32⟩
  | 78 => ⟨S12x12, .i32⟩
  | 79 => ⟨S_, .i32⟩
  | 80 => ⟨S12x12, .i32⟩
  | 81 => ⟨S12x12, .i32⟩
  | 82 => ⟨S12x12, .i1⟩
  | 83 => ⟨S12x12, .f32⟩
  | 84 => ⟨S32x1x32x1, .f32⟩
  | 85 => ⟨S1x12x1x12, .f32⟩
  | 86 => ⟨S32x12x32x12, .f32⟩
  | 87 => ⟨S32x12x32x12, .f32⟩
  | 88 => ⟨S32x12x32x12, .f32⟩
  | 89 => ⟨S384x384, .f32⟩
  | 90 => ⟨S1x384x384, .f32⟩
  | 91 => ⟨S1x384x384, .f32⟩
  | 92 => ⟨S1x384x384, .f32⟩
  | 93 => ⟨S1x384x384, .f32⟩
  | 94 => ⟨S4x384x384, .f32⟩
  | 95 => ⟨S32x32, .f32⟩
  | 96 => ⟨S32x32, .f32⟩
  | 97 => ⟨S32x32, .f32⟩
  | 98 => ⟨S12x12, .i32⟩
  | 99 => ⟨S12x12, .i32⟩
  | 100 => ⟨S_, .i32⟩
  | 101 => ⟨S12x12, .i32⟩
  | 102 => ⟨S12x12, .i32⟩
  | 103 => ⟨S12x12, .i1⟩
  | 104 => ⟨S12x12, .f32⟩
  | 105 => ⟨S32x1x32x1, .f32⟩
  | 106 => ⟨S1x12x1x12, .f32⟩
  | 107 => ⟨S32x12x32x12, .f32⟩
  | 108 => ⟨S32x12x32x12, .f32⟩
  | 109 => ⟨S32x12x32x12, .f32⟩
  | 110 => ⟨S384x384, .f32⟩
  | 111 => ⟨S32x32, .f32⟩
  | 112 => ⟨S32x32, .f32⟩
  | 113 => ⟨S32x32, .f32⟩
  | 114 => ⟨S12x12, .i32⟩
  | 115 => ⟨S12x12, .i32⟩
  | 116 => ⟨S_, .i32⟩
  | 117 => ⟨S12x12, .i32⟩
  | 118 => ⟨S12x12, .i32⟩
  | 119 => ⟨S12x12, .i1⟩
  | 120 => ⟨S12x12, .f32⟩
  | 121 => ⟨S32x1x32x1, .f32⟩
  | 122 => ⟨S1x12x1x12, .f32⟩
  | 123 => ⟨S32x12x32x12, .f32⟩
  | 124 => ⟨S32x12x32x12, .f32⟩
  | 125 => ⟨S32x12x32x12, .f32⟩
  | 126 => ⟨S384x384, .f32⟩
  | 127 => ⟨S32x32, .f32⟩
  | _ => ⟨S4x32x2048x12, .f32⟩

abbrev hbmTy0_1 (i : Nat) : BufTy := match i % 128 with
  | 0 => ⟨S32x32, .f32⟩
  | 1 => ⟨S32x32, .f32⟩
  | 2 => ⟨S12x12, .i32⟩
  | 3 => ⟨S12x12, .i32⟩
  | 4 => ⟨S_, .i32⟩
  | 5 => ⟨S12x12, .i32⟩
  | 6 => ⟨S12x12, .i32⟩
  | 7 => ⟨S12x12, .i1⟩
  | 8 => ⟨S12x12, .f32⟩
  | 9 => ⟨S32x1x32x1, .f32⟩
  | 10 => ⟨S1x12x1x12, .f32⟩
  | 11 => ⟨S32x12x32x12, .f32⟩
  | 12 => ⟨S32x12x32x12, .f32⟩
  | 13 => ⟨S32x12x32x12, .f32⟩
  | 14 => ⟨S384x384, .f32⟩
  | 15 => ⟨S32x32, .f32⟩
  | 16 => ⟨S32x32, .f32⟩
  | 17 => ⟨S32x32, .f32⟩
  | 18 => ⟨S12x12, .i32⟩
  | 19 => ⟨S12x12, .i32⟩
  | 20 => ⟨S_, .i32⟩
  | 21 => ⟨S12x12, .i32⟩
  | 22 => ⟨S12x12, .i32⟩
  | 23 => ⟨S12x12, .i1⟩
  | 24 => ⟨S12x12, .f32⟩
  | 25 => ⟨S32x1x32x1, .f32⟩
  | 26 => ⟨S1x12x1x12, .f32⟩
  | 27 => ⟨S32x12x32x12, .f32⟩
  | 28 => ⟨S32x12x32x12, .f32⟩
  | 29 => ⟨S32x12x32x12, .f32⟩
  | 30 => ⟨S384x384, .f32⟩
  | 31 => ⟨S1x384x384, .f32⟩
  | 32 => ⟨S1x384x384, .f32⟩
  | 33 => ⟨S1x384x384, .f32⟩
  | 34 => ⟨S1x384x384, .f32⟩
  | 35 => ⟨S4x384x384, .f32⟩
  | 36 => ⟨S32x32, .f32⟩
  | 37 => ⟨S32x32, .f32⟩
  | 38 => ⟨S32x32, .f32⟩
  | 39 => ⟨S12x12, .i32⟩
  | 40 => ⟨S12x12, .i32⟩
  | 41 => ⟨S_, .i32⟩
  | 42 => ⟨S12x12, .i32⟩
  | 43 => ⟨S12x12, .i32⟩
  | 44 => ⟨S12x12, .i1⟩
  | 45 => ⟨S12x12, .f32⟩
  | 46 => ⟨S32x1x32x1, .f32⟩
  | 47 => ⟨S1x12x1x12, .f32⟩
  | 48 => ⟨S32x12x32x12, .f32⟩
  | 49 => ⟨S32x12x32x12, .f32⟩
  | 50 => ⟨S32x12x32x12, .f32⟩
  | 51 => ⟨S384x384, .f32⟩
  | 52 => ⟨S32x32, .f32⟩
  | 53 => ⟨S32x32, .f32⟩
  | 54 => ⟨S32x32, .f32⟩
  | 55 => ⟨S12x12, .i32⟩
  | 56 => ⟨S12x12, .i32⟩
  | 57 => ⟨S_, .i32⟩
  | 58 => ⟨S12x12, .i32⟩
  | 59 => ⟨S12x12, .i32⟩
  | 60 => ⟨S12x12, .i1⟩
  | 61 => ⟨S12x12, .f32⟩
  | 62 => ⟨S32x1x32x1, .f32⟩
  | 63 => ⟨S1x12x1x12, .f32⟩
  | 64 => ⟨S32x12x32x12, .f32⟩
  | 65 => ⟨S32x12x32x12, .f32⟩
  | 66 => ⟨S32x12x32x12, .f32⟩
  | 67 => ⟨S384x384, .f32⟩
  | 68 => ⟨S32x32, .f32⟩
  | 69 => ⟨S32x32, .f32⟩
  | 70 => ⟨S32x32, .f32⟩
  | 71 => ⟨S12x12, .i32⟩
  | 72 => ⟨S12x12, .i32⟩
  | 73 => ⟨S_, .i32⟩
  | 74 => ⟨S12x12, .i32⟩
  | 75 => ⟨S12x12, .i32⟩
  | 76 => ⟨S12x12, .i1⟩
  | 77 => ⟨S12x12, .f32⟩
  | 78 => ⟨S32x1x32x1, .f32⟩
  | 79 => ⟨S1x12x1x12, .f32⟩
  | 80 => ⟨S32x12x32x12, .f32⟩
  | 81 => ⟨S32x12x32x12, .f32⟩
  | 82 => ⟨S32x12x32x12, .f32⟩
  | 83 => ⟨S384x384, .f32⟩
  | 84 => ⟨S32x32, .f32⟩
  | 85 => ⟨S32x32, .f32⟩
  | 86 => ⟨S32x32, .f32⟩
  | 87 => ⟨S12x12, .i32⟩
  | 88 => ⟨S12x12, .i32⟩
  | 89 => ⟨S_, .i32⟩
  | 90 => ⟨S12x12, .i32⟩
  | 91 => ⟨S12x12, .i32⟩
  | 92 => ⟨S12x12, .i1⟩
  | 93 => ⟨S12x12, .f32⟩
  | 94 => ⟨S32x1x32x1, .f32⟩
  | 95 => ⟨S1x12x1x12, .f32⟩
  | 96 => ⟨S32x12x32x12, .f32⟩
  | 97 => ⟨S32x12x32x12, .f32⟩
  | 98 => ⟨S32x12x32x12, .f32⟩
  | 99 => ⟨S384x384, .f32⟩
  | 100 => ⟨S1x384x384, .f32⟩
  | 101 => ⟨S1x384x384, .f32⟩
  | 102 => ⟨S1x384x384, .f32⟩
  | 103 => ⟨S1x384x384, .f32⟩
  | 104 => ⟨S4x384x384, .f32⟩
  | 105 => ⟨S1x4x384x384, .f32⟩
  | 106 => ⟨S1x4x384x384, .f32⟩
  | 107 => ⟨S1x4x384x384, .f32⟩
  | 108 => ⟨S3x4x384x384, .f32⟩
  | 109 => ⟨S32x1, .f32⟩
  | 110 => ⟨S32x12, .f32⟩
  | 111 => ⟨S384x1, .f32⟩
  | 112 => ⟨S12x12, .i32⟩
  | 113 => ⟨S12x12, .i32⟩
  | 114 => ⟨S_, .i32⟩
  | 115 => ⟨S12x12, .i32⟩
  | 116 => ⟨S12x12, .i32⟩
  | 117 => ⟨S12x12, .i1⟩
  | 118 => ⟨S12x12, .f32⟩
  | 119 => ⟨S32x1x32x1, .f32⟩
  | 120 => ⟨S1x12x1x12, .f32⟩
  | 121 => ⟨S32x12x32x12, .f32⟩
  | 122 => ⟨S32x12x32x12, .f32⟩
  | 123 => ⟨S32x12x32x12, .f32⟩
  | 124 => ⟨S384x384, .f32⟩
  | 125 => ⟨S_, .f32⟩
  | 126 => ⟨S384x7, .f32⟩
  | 127 => ⟨S384x392, .f32⟩
  | _ => ⟨S4x32x2048x12, .f32⟩

abbrev hbmTy0_2 (i : Nat) : BufTy := match i % 128 with
  | 0 => ⟨S4x32x12x2048, .f32⟩
  | 1 => ⟨S4x384x2048, .f32⟩
  | 2 => ⟨S_, .f32⟩
  | 3 => ⟨S4x1x2048, .f32⟩
  | 4 => ⟨S_, .f32⟩
  | 5 => ⟨S4x7x2048, .f32⟩
  | 6 => ⟨S4x392x2048, .f32⟩
  | 7 => ⟨S4x384x2048, .f32⟩
  | 8 => ⟨S4x32x12x2048, .f32⟩
  | 9 => ⟨S4x32x2048x12, .f32⟩
  | _ => ⟨S4x32x2048x12, .f32⟩

abbrev hbmTy (i : Nat) : BufTy := match i / 128 with
  | 0 => hbmTy0_0 i
  | 1 => hbmTy0_1 i
  | 2 => hbmTy0_2 i
  | _ => ⟨S4x32x2048x12, .f32⟩

abbrev bufTy : (tb : Table) → Fin (tcTables nBuf tb) → BufTy
  | .hbm, ⟨i, _⟩ => hbmTy i
  | .local _ .vmem, ⟨0, _⟩ => ⟨S1x1x512x2048, .f32⟩
  | .local _ .vmem, ⟨1, _⟩ => ⟨S1x1x512x2048, .f32⟩
  | .local _ .vmem, ⟨2, _⟩ => ⟨S1x392x2048, .f32⟩
  | .local _ .vmem, ⟨3, _⟩ => ⟨S1x392x2048, .f32⟩
  | .local _ .vmem, ⟨4, _⟩ => ⟨S1x384x512, .f32⟩
  | .local _ .vmem, ⟨5, _⟩ => ⟨S1x384x512, .f32⟩
  | .local _ .vmem, ⟨6, _⟩ => ⟨S1x4x384x384, .f32⟩
  | .local _ .vmem, ⟨7, _⟩ => ⟨S1x4x384x384, .f32⟩
  | .local _ .vmem, ⟨8, _⟩ => ⟨S384x392, .f32⟩
  | .local _ .vmem, ⟨9, _⟩ => ⟨S1x384x2048, .f32⟩
  | .local _ .vmem, ⟨10, _⟩ => ⟨S1x384x2048, .f32⟩
  | _, _ => ⟨S4x32x2048x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_2 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_3 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_4 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_5 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_c_6 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_call7_v0 : Ref sig .tc := ⟨.hbm, 153, rfl⟩
abbrev main_call7_v1 : Ref sig .tc := ⟨.hbm, 154, rfl⟩
abbrev main_call7_v2 : Ref sig .tc := ⟨.hbm, 155, rfl⟩
abbrev main_call7_v3 : Ref sig .tc := ⟨.hbm, 156, rfl⟩
abbrev main_call7_v4 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_c_7 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_call8_v0 : Ref sig .tc := ⟨.hbm, 174, rfl⟩
abbrev main_call8_v1 : Ref sig .tc := ⟨.hbm, 175, rfl⟩
abbrev main_call8_v2 : Ref sig .tc := ⟨.hbm, 176, rfl⟩
abbrev main_call8_v3 : Ref sig .tc := ⟨.hbm, 177, rfl⟩
abbrev main_call8_v4 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_c_8 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_call9_v0 : Ref sig .tc := ⟨.hbm, 190, rfl⟩
abbrev main_call9_v1 : Ref sig .tc := ⟨.hbm, 191, rfl⟩
abbrev main_call9_v2 : Ref sig .tc := ⟨.hbm, 192, rfl⟩
abbrev main_call9_v3 : Ref sig .tc := ⟨.hbm, 193, rfl⟩
abbrev main_call9_v4 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_c_9 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_call10_v0 : Ref sig .tc := ⟨.hbm, 206, rfl⟩
abbrev main_call10_v1 : Ref sig .tc := ⟨.hbm, 207, rfl⟩
abbrev main_call10_v2 : Ref sig .tc := ⟨.hbm, 208, rfl⟩
abbrev main_call10_v3 : Ref sig .tc := ⟨.hbm, 209, rfl⟩
abbrev main_call10_v4 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_c_10 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_call11_v0 : Ref sig .tc := ⟨.hbm, 222, rfl⟩
abbrev main_call11_v1 : Ref sig .tc := ⟨.hbm, 223, rfl⟩
abbrev main_call11_v2 : Ref sig .tc := ⟨.hbm, 224, rfl⟩
abbrev main_call11_v3 : Ref sig .tc := ⟨.hbm, 225, rfl⟩
abbrev main_call11_v4 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_c_11 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_call12_v0 : Ref sig .tc := ⟨.hbm, 247, rfl⟩
abbrev main_call12_v1 : Ref sig .tc := ⟨.hbm, 248, rfl⟩
abbrev main_call12_v2 : Ref sig .tc := ⟨.hbm, 249, rfl⟩
abbrev main_call12_v3 : Ref sig .tc := ⟨.hbm, 250, rfl⟩
abbrev main_call12_v4 : Ref sig .tc := ⟨.hbm, 251, rfl⟩
abbrev main_v162 : Ref sig .tc := ⟨.hbm, 252, rfl⟩
abbrev main_cst : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_cst_12 : Ref sig .tc := ⟨.hbm, 258, rfl⟩
abbrev main_v167 : Ref sig .tc := ⟨.hbm, 259, rfl⟩
abbrev main_cst_13 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 3, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x392x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x4x384x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S384x392 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== KernelIdeal.lean ====
variable {F : FTy → Type} [FloatOps F] [Named F]
def κ : String → Option EReal := fun
  | "removed" => some ⊥
  | _ => none
-- ==== ReferenceIdeal.lean ====
abbrev S4x32x2048x12 : Shape := ⟨4, ![4, 32, 2048, 12]⟩
abbrev S4x3x2048x2048 : Shape := ⟨4, ![4, 3, 2048, 2048]⟩
abbrev S32x32 : Shape := ⟨2, ![32, 32]⟩
abbrev S32 : Shape := ⟨1, ![32]⟩
abbrev S32x128 : Shape := ⟨2, ![32, 128]⟩
abbrev S4x2048x12x32 : Shape := ⟨4, ![4, 2048, 12, 32]⟩
abbrev S1x32x1x1 : Shape := ⟨4, ![1, 32, 1, 1]⟩
abbrev S4x1x2048x2048 : Shape := ⟨4, ![4, 1, 2048, 2048]⟩
abbrev S4x2048x2048 : Shape := ⟨3, ![4, 2048, 2048]⟩
abbrev S4x2048x10 : Shape := ⟨3, ![4, 2048, 10]⟩
abbrev S_ : Shape := ⟨0, ![]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x10x1 : Shape := ⟨4, ![4, 2048, 10, 1]⟩
abbrev S4x2048x10x3 : Shape := ⟨4, ![4, 2048, 10, 3]⟩
abbrev S4x2048 : Shape := ⟨2, ![4, 2048]⟩
abbrev S4x2048x1 : Shape := ⟨3, ![4, 2048, 1]⟩
abbrev S4x2048x32x12 : Shape := ⟨4, ![4, 2048, 32, 12]⟩
abbrev S4x2048x20 : Shape := ⟨3, ![4, 2048, 20]⟩
abbrev S4x2048x20x1 : Shape := ⟨4, ![4, 2048, 20, 1]⟩
abbrev S4x2048x20x3 : Shape := ⟨4, ![4, 2048, 20, 3]⟩
abbrev S4x2048x40 : Shape := ⟨3, ![4, 2048, 40]⟩
abbrev S4x2048x40x1 : Shape := ⟨4, ![4, 2048, 40, 1]⟩
abbrev S4x2048x40x3 : Shape := ⟨4, ![4, 2048, 40, 3]⟩
abbrev S4x128x2048x12 : Shape := ⟨4, ![4, 128, 2048, 12]⟩

abbrev nBuf : Space → Nat
  | .hbm => 563
  | .vmem => 0
  | .smem => 0
  | _ => 0

abbrev hbmTy0_0 (i : Nat) : BufTy := match i % 128 with
  | 0 => ⟨S4x32x2048x12, .f32⟩
  | 1 => ⟨S4x3x2048x2048, .f32⟩
  | 2 => ⟨S32x32, .f32⟩
  | 3 => ⟨S32, .f32⟩
  | 4 => ⟨S32x128, .f32⟩
  | 5 => ⟨S32, .f32⟩
  | 6 => ⟨S32x128, .f32⟩
  | 7 => ⟨S32, .f32⟩
  | 8 => ⟨S32x128, .f32⟩
  | 9 => ⟨S32, .f32⟩
  | 10 => ⟨S32x128, .f32⟩
  | 11 => ⟨S32, .f32⟩
  | 12 => ⟨S4x2048x12x32, .f32⟩
  | 13 => ⟨S4x32x2048x12, .f32⟩
  | 14 => ⟨S1x32x1x1, .f32⟩
  | 15 => ⟨S4x32x2048x12, .f32⟩
  | 16 => ⟨S4x32x2048x12, .f32⟩
  | 17 => ⟨S4x1x2048x2048, .f32⟩
  | 18 => ⟨S4x2048x2048, .f32⟩
  | 19 => ⟨S4x2048x10, .f32⟩
  | 20 => ⟨S4x2048x10, .i32⟩
  | 21 => ⟨S_, .f32⟩
  | 22 => ⟨S4x2048x2048, .f32⟩
  | 23 => ⟨S4, .i32⟩
  | 24 => ⟨S4x1x1, .i32⟩
  | 25 => ⟨S2048, .i32⟩
  | 26 => ⟨S1x2048x1, .i32⟩
  | 27 => ⟨S_, .i32⟩
  | 28 => ⟨S4x1x1, .i32⟩
  | 29 => ⟨S4x1x1, .i1⟩
  | 30 => ⟨S_, .i32⟩
  | 31 => ⟨S4x1x1, .i32⟩
  | 32 => ⟨S4x1x1, .i32⟩
  | 33 => ⟨S4x1x1, .i32⟩
  | 34 => ⟨S_, .i32⟩
  | 35 => ⟨S1x2048x1, .i32⟩
  | 36 => ⟨S1x2048x1, .i1⟩
  | 37 => ⟨S_, .i32⟩
  | 38 => ⟨S1x2048x1, .i32⟩
  | 39 => ⟨S1x2048x1, .i32⟩
  | 40 => ⟨S1x2048x1, .i32⟩
  | 41 => ⟨S_, .i32⟩
  | 42 => ⟨S4x2048x10, .i32⟩
  | 43 => ⟨S4x2048x10, .i1⟩
  | 44 => ⟨S_, .i32⟩
  | 45 => ⟨S4x2048x10, .i32⟩
  | 46 => ⟨S4x2048x10, .i32⟩
  | 47 => ⟨S4x2048x10, .i32⟩
  | 48 => ⟨S4x2048x10, .i32⟩
  | 49 => ⟨S4x2048x10, .i32⟩
  | 50 => ⟨S4x2048x10x1, .i32⟩
  | 51 => ⟨S4x2048x10x1, .i32⟩
  | 52 => ⟨S4x2048x10x1, .i32⟩
  | 53 => ⟨S4x2048x10x3, .i32⟩
  | 54 => ⟨S4x2048x2048, .f32⟩
  | 55 => ⟨S_, .f32⟩
  | 56 => ⟨S4x2048, .f32⟩
  | 57 => ⟨S_, .f32⟩
  | 58 => ⟨S4x2048, .f32⟩
  | 59 => ⟨S4x2048, .f32⟩
  | 60 => ⟨S4x2048x1, .f32⟩
  | 61 => ⟨S4x2048x2048, .f32⟩
  | 62 => ⟨S4x2048x2048, .f32⟩
  | 63 => ⟨S4x2048x2048, .f32⟩
  | 64 => ⟨S_, .f32⟩
  | 65 => ⟨S4x2048, .f32⟩
  | 66 => ⟨S4x2048x1, .f32⟩
  | 67 => ⟨S4x2048x2048, .f32⟩
  | 68 => ⟨S4x2048x2048, .f32⟩
  | 69 => ⟨S4x2048x32x12, .f32⟩
  | 70 => ⟨S4x32x2048x12, .f32⟩
  | 71 => ⟨S4x2048x20, .f32⟩
  | 72 => ⟨S4x2048x20, .i32⟩
  | 73 => ⟨S_, .f32⟩
  | 74 => ⟨S4x2048x2048, .f32⟩
  | 75 => ⟨S4, .i32⟩
  | 76 => ⟨S4x1x1, .i32⟩
  | 77 => ⟨S2048, .i32⟩
  | 78 => ⟨S1x2048x1, .i32⟩
  | 79 => ⟨S_, .i32⟩
  | 80 => ⟨S4x1x1, .i32⟩
  | 81 => ⟨S4x1x1, .i1⟩
  | 82 => ⟨S_, .i32⟩
  | 83 => ⟨S4x1x1, .i32⟩
  | 84 => ⟨S4x1x1, .i32⟩
  | 85 => ⟨S4x1x1, .i32⟩
  | 86 => ⟨S_, .i32⟩
  | 87 => ⟨S1x2048x1, .i32⟩
  | 88 => ⟨S1x2048x1, .i1⟩
  | 89 => ⟨S_, .i32⟩
  | 90 => ⟨S1x2048x1, .i32⟩
  | 91 => ⟨S1x2048x1, .i32⟩
  | 92 => ⟨S1x2048x1, .i32⟩
  | 93 => ⟨S_, .i32⟩
  | 94 => ⟨S4x2048x20, .i32⟩
  | 95 => ⟨S4x2048x20, .i1⟩
  | 96 => ⟨S_, .i32⟩
  | 97 => ⟨S4x2048x20, .i32⟩
  | 98 => ⟨S4x2048x20, .i32⟩
  | 99 => ⟨S4x2048x20, .i32⟩
  | 100 => ⟨S4x2048x20, .i32⟩
  | 101 => ⟨S4x2048x20, .i32⟩
  | 102 => ⟨S4x2048x20x1, .i32⟩
  | 103 => ⟨S4x2048x20x1, .i32⟩
  | 104 => ⟨S4x2048x20x1, .i32⟩
  | 105 => ⟨S4x2048x20x3, .i32⟩
  | 106 => ⟨S4x2048x2048, .f32⟩
  | 107 => ⟨S_, .f32⟩
  | 108 => ⟨S4x2048, .f32⟩
  | 109 => ⟨S_, .f32⟩
  | 110 => ⟨S4x2048, .f32⟩
  | 111 => ⟨S4x2048, .f32⟩
  | 112 => ⟨S4x2048x1, .f32⟩
  | 113 => ⟨S4x2048x2048, .f32⟩
  | 114 => ⟨S4x2048x2048, .f32⟩
  | 115 => ⟨S4x2048x2048, .f32⟩
  | 116 => ⟨S_, .f32⟩
  | 117 => ⟨S4x2048, .f32⟩
  | 118 => ⟨S4x2048x1, .f32⟩
  | 119 => ⟨S4x2048x2048, .f32⟩
  | 120 => ⟨S4x2048x2048, .f32⟩
  | 121 => ⟨S4x2048x32x12, .f32⟩
  | 122 => ⟨S4x32x2048x12, .f32⟩
  | 123 => ⟨S4x2048x40, .f32⟩
  | 124 => ⟨S4x2048x40, .i32⟩
  | 125 => ⟨S_, .f32⟩
  | 126 => ⟨S4x2048x2048, .f32⟩
  | 127 => ⟨S4, .i32⟩
  | _ => ⟨S4x32x2048x12, .f32⟩

abbrev hbmTy0_1 (i : Nat) : BufTy := match i % 128 with
  | 0 => ⟨S4x1x1, .i32⟩
  | 1 => ⟨S2048, .i32⟩
  | 2 => ⟨S1x2048x1, .i32⟩
  | 3 => ⟨S_, .i32⟩
  | 4 => ⟨S4x1x1, .i32⟩
  | 5 => ⟨S4x1x1, .i1⟩
  | 6 => ⟨S_, .i32⟩
  | 7 => ⟨S4x1x1, .i32⟩
  | 8 => ⟨S4x1x1, .i32⟩
  | 9 => ⟨S4x1x1, .i32⟩
  | 10 => ⟨S_, .i32⟩
  | 11 => ⟨S1x2048x1, .i32⟩
  | 12 => ⟨S1x2048x1, .i1⟩
  | 13 => ⟨S_, .i32⟩
  | 14 => ⟨S1x2048x1, .i32⟩
  | 15 => ⟨S1x2048x1, .i32⟩
  | 16 => ⟨S1x2048x1, .i32⟩
  | 17 => ⟨S_, .i32⟩
  | 18 => ⟨S4x2048x40, .i32⟩
  | 19 => ⟨S4x2048x40, .i1⟩
  | 20 => ⟨S_, .i32⟩
  | 21 => ⟨S4x2048x40, .i32⟩
  | 22 => ⟨S4x2048x40, .i32⟩
  | 23 => ⟨S4x2048x40, .i32⟩
  | 24 => ⟨S4x2048x40, .i32⟩
  | 25 => ⟨S4x2048x40, .i32⟩
  | 26 => ⟨S4x2048x40x1, .i32⟩
  | 27 => ⟨S4x2048x40x1, .i32⟩
  | 28 => ⟨S4x2048x40x1, .i32⟩
  | 29 => ⟨S4x2048x40x3, .i32⟩
  | 30 => ⟨S4x2048x2048, .f32⟩
  | 31 => ⟨S_, .f32⟩
  | 32 => ⟨S4x2048, .f32⟩
  | 33 => ⟨S_, .f32⟩
  | 34 => ⟨S4x2048, .f32⟩
  | 35 => ⟨S4x2048, .f32⟩
  | 36 => ⟨S4x2048x1, .f32⟩
  | 37 => ⟨S4x2048x2048, .f32⟩
  | 38 => ⟨S4x2048x2048, .f32⟩
  | 39 => ⟨S4x2048x2048, .f32⟩
  | 40 => ⟨S_, .f32⟩
  | 41 => ⟨S4x2048, .f32⟩
  | 42 => ⟨S4x2048x1, .f32⟩
  | 43 => ⟨S4x2048x2048, .f32⟩
  | 44 => ⟨S4x2048x2048, .f32⟩
  | 45 => ⟨S4x2048x32x12, .f32⟩
  | 46 => ⟨S4x32x2048x12, .f32⟩
  | 47 => ⟨S_, .f32⟩
  | 48 => ⟨S4x2048, .f32⟩
  | 49 => ⟨S_, .f32⟩
  | 50 => ⟨S4x2048, .f32⟩
  | 51 => ⟨S4x2048, .f32⟩
  | 52 => ⟨S4x2048x1, .f32⟩
  | 53 => ⟨S4x2048x2048, .f32⟩
  | 54 => ⟨S4x2048x2048, .f32⟩
  | 55 => ⟨S4x2048x2048, .f32⟩
  | 56 => ⟨S_, .f32⟩
  | 57 => ⟨S4x2048, .f32⟩
  | 58 => ⟨S4x2048x1, .f32⟩
  | 59 => ⟨S4x2048x2048, .f32⟩
  | 60 => ⟨S4x2048x2048, .f32⟩
  | 61 => ⟨S4x2048x32x12, .f32⟩
  | 62 => ⟨S4x32x2048x12, .f32⟩
  | 63 => ⟨S4x128x2048x12, .f32⟩
  | 64 => ⟨S4x2048x12x32, .f32⟩
  | 65 => ⟨S4x32x2048x12, .f32⟩
  | 66 => ⟨S1x32x1x1, .f32⟩
  | 67 => ⟨S4x32x2048x12, .f32⟩
  | 68 => ⟨S4x32x2048x12, .f32⟩
  | 69 => ⟨S4x1x2048x2048, .f32⟩
  | 70 => ⟨S4x2048x2048, .f32⟩
  | 71 => ⟨S4x2048x10, .f32⟩
  | 72 => ⟨S4x2048x10, .i32⟩
  | 73 => ⟨S_, .f32⟩
  | 74 => ⟨S4x2048x2048, .f32⟩
  | 75 => ⟨S4, .i32⟩
  | 76 => ⟨S4x1x1, .i32⟩
  | 77 => ⟨S2048, .i32⟩
  | 78 => ⟨S1x2048x1, .i32⟩
  | 79 => ⟨S_, .i32⟩
  | 80 => ⟨S4x1x1, .i32⟩
  | 81 => ⟨S4x1x1, .i1⟩
  | 82 => ⟨S_, .i32⟩
  | 83 => ⟨S4x1x1, .i32⟩
  | 84 => ⟨S4x1x1, .i32⟩
  | 85 => ⟨S4x1x1, .i32⟩
  | 86 => ⟨S_, .i32⟩
  | 87 => ⟨S1x2048x1, .i32⟩
  | 88 => ⟨S1x2048x1, .i1⟩
  | 89 => ⟨S_, .i32⟩
  | 90 => ⟨S1x2048x1, .i32⟩
  | 91 => ⟨S1x2048x1, .i32⟩
  | 92 => ⟨S1x2048x1, .i32⟩
  | 93 => ⟨S_, .i32⟩
  | 94 => ⟨S4x2048x10, .i32⟩
  | 95 => ⟨S4x2048x10, .i1⟩
  | 96 => ⟨S_, .i32⟩
  | 97 => ⟨S4x2048x10, .i32⟩
  | 98 => ⟨S4x2048x10, .i32⟩
  | 99 => ⟨S4x2048x10, .i32⟩
  | 100 => ⟨S4x2048x10, .i32⟩
  | 101 => ⟨S4x2048x10, .i32⟩
  | 102 => ⟨S4x2048x10x1, .i32⟩
  | 103 => ⟨S4x2048x10x1, .i32⟩
  | 104 => ⟨S4x2048x10x1, .i32⟩
  | 105 => ⟨S4x2048x10x3, .i32⟩
  | 106 => ⟨S4x2048x2048, .f32⟩
  | 107 => ⟨S_, .f32⟩
  | 108 => ⟨S4x2048, .f32⟩
  | 109 => ⟨S_, .f32⟩
  | 110 => ⟨S4x2048, .f32⟩
  | 111 => ⟨S4x2048, .f32⟩
  | 112 => ⟨S4x2048x1, .f32⟩
  | 113 => ⟨S4x2048x2048, .f32⟩
  | 114 => ⟨S4x2048x2048, .f32⟩
  | 115 => ⟨S4x2048x2048, .f32⟩
  | 116 => ⟨S_, .f32⟩
  | 117 => ⟨S4x2048, .f32⟩
  | 118 => ⟨S4x2048x1, .f32⟩
  | 119 => ⟨S4x2048x2048, .f32⟩
  | 120 => ⟨S4x2048x2048, .f32⟩
  | 121 => ⟨S4x2048x32x12, .f32⟩
  | 122 => ⟨S4x32x2048x12, .f32⟩
  | 123 => ⟨S4x2048x20, .f32⟩
  | 124 => ⟨S4x2048x20, .i32⟩
  | 125 => ⟨S_, .f32⟩
  | 126 => ⟨S4x2048x2048, .f32⟩
  | 127 => ⟨S4, .i32⟩
  | _ => ⟨S4x32x2048x12, .f32⟩

abbrev hbmTy0_2 (i : Nat) : BufTy := match i % 128 with
  | 0 => ⟨S4x1x1, .i32⟩
  | 1 => ⟨S2048, .i32⟩
  | 2 => ⟨S1x2048x1, .i32⟩
  | 3 => ⟨S_, .i32⟩
  | 4 => ⟨S4x1x1, .i32⟩
  | 5 => ⟨S4x1x1, .i1⟩
  | 6 => ⟨S_, .i32⟩
  | 7 => ⟨S4x1x1, .i32⟩
  | 8 => ⟨S4x1x1, .i32⟩
  | 9 => ⟨S4x1x1, .i32⟩
  | 10 => ⟨S_, .i32⟩
  | 11 => ⟨S1x2048x1, .i32⟩
  | 12 => ⟨S1x2048x1, .i1⟩
  | 13 => ⟨S_, .i32⟩
  | 14 => ⟨S1x2048x1, .i32⟩
  | 15 => ⟨S1x2048x1, .i32⟩
  | 16 => ⟨S1x2048x1, .i32⟩
  | 17 => ⟨S_, .i32⟩
  | 18 => ⟨S4x2048x20, .i32⟩
  | 19 => ⟨S4x2048x20, .i1⟩
  | 20 => ⟨S_, .i32⟩
  | 21 => ⟨S4x2048x20, .i32⟩
  | 22 => ⟨S4x2048x20, .i32⟩
  | 23 => ⟨S4x2048x20, .i32⟩
  | 24 => ⟨S4x2048x20, .i32⟩
  | 25 => ⟨S4x2048x20, .i32⟩
  | 26 => ⟨S4x2048x20x1, .i32⟩
  | 27 => ⟨S4x2048x20x1, .i32⟩
  | 28 => ⟨S4x2048x20x1, .i32⟩
  | 29 => ⟨S4x2048x20x3, .i32⟩
  | 30 => ⟨S4x2048x2048, .f32⟩
  | 31 => ⟨S_, .f32⟩
  | 32 => ⟨S4x2048, .f32⟩
  | 33 => ⟨S_, .f32⟩
  | 34 => ⟨S4x2048, .f32⟩
  | 35 => ⟨S4x2048, .f32⟩
  | 36 => ⟨S4x2048x1, .f32⟩
  | 37 => ⟨S4x2048x2048, .f32⟩
  | 38 => ⟨S4x2048x2048, .f32⟩
  | 39 => ⟨S4x2048x2048, .f32⟩
  | 40 => ⟨S_, .f32⟩
  | 41 => ⟨S4x2048, .f32⟩
  | 42 => ⟨S4x2048x1, .f32⟩
  | 43 => ⟨S4x2048x2048, .f32⟩
  | 44 => ⟨S4x2048x2048, .f32⟩
  | 45 => ⟨S4x2048x32x12, .f32⟩
  | 46 => ⟨S4x32x2048x12, .f32⟩
  | 47 => ⟨S4x2048x40, .f32⟩
  | 48 => ⟨S4x2048x40, .i32⟩
  | 49 => ⟨S_, .f32⟩
  | 50 => ⟨S4x2048x2048, .f32⟩
  | 51 => ⟨S4, .i32⟩
  | 52 => ⟨S4x1x1, .i32⟩
  | 53 => ⟨S2048, .i32⟩
  | 54 => ⟨S1x2048x1, .i32⟩
  | 55 => ⟨S_, .i32⟩
  | 56 => ⟨S4x1x1, .i32⟩
  | 57 => ⟨S4x1x1, .i1⟩
  | 58 => ⟨S_, .i32⟩
  | 59 => ⟨S4x1x1, .i32⟩
  | 60 => ⟨S4x1x1, .i32⟩
  | 61 => ⟨S4x1x1, .i32⟩
  | 62 => ⟨S_, .i32⟩
  | 63 => ⟨S1x2048x1, .i32⟩
  | 64 => ⟨S1x2048x1, .i1⟩
  | 65 => ⟨S_, .i32⟩
  | 66 => ⟨S1x2048x1, .i32⟩
  | 67 => ⟨S1x2048x1, .i32⟩
  | 68 => ⟨S1x2048x1, .i32⟩
  | 69 => ⟨S_, .i32⟩
  | 70 => ⟨S4x2048x40, .i32⟩
  | 71 => ⟨S4x2048x40, .i1⟩
  | 72 => ⟨S_, .i32⟩
  | 73 => ⟨S4x2048x40, .i32⟩
  | 74 => ⟨S4x2048x40, .i32⟩
  | 75 => ⟨S4x2048x40, .i32⟩
  | 76 => ⟨S4x2048x40, .i32⟩
  | 77 => ⟨S4x2048x40, .i32⟩
  | 78 => ⟨S4x2048x40x1, .i32⟩
  | 79 => ⟨S4x2048x40x1, .i32⟩
  | 80 => ⟨S4x2048x40x1, .i32⟩
  | 81 => ⟨S4x2048x40x3, .i32⟩
  | 82 => ⟨S4x2048x2048, .f32⟩
  | 83 => ⟨S_, .f32⟩
  | 84 => ⟨S4x2048, .f32⟩
  | 85 => ⟨S_, .f32⟩
  | 86 => ⟨S4x2048, .f32⟩
  | 87 => ⟨S4x2048, .f32⟩
  | 88 => ⟨S4x2048x1, .f32⟩
  | 89 => ⟨S4x2048x2048, .f32⟩
  | 90 => ⟨S4x2048x2048, .f32⟩
  | 91 => ⟨S4x2048x2048, .f32⟩
  | 92 => ⟨S_, .f32⟩
  | 93 => ⟨S4x2048, .f32⟩
  | 94 => ⟨S4x2048x1, .f32⟩
  | 95 => ⟨S4x2048x2048, .f32⟩
  | 96 => ⟨S4x2048x2048, .f32⟩
  | 97 => ⟨S4x2048x32x12, .f32⟩
  | 98 => ⟨S4x32x2048x12, .f32⟩
  | 99 => ⟨S_, .f32⟩
  | 100 => ⟨S4x2048, .f32⟩
  | 101 => ⟨S_, .f32⟩
  | 102 => ⟨S4x2048, .f32⟩
  | 103 => ⟨S4x2048, .f32⟩
  | 104 => ⟨S4x2048x1, .f32⟩
  | 105 => ⟨S4x2048x2048, .f32⟩
  | 106 => ⟨S4x2048x2048, .f32⟩
  | 107 => ⟨S4x2048x2048, .f32⟩
  | 108 => ⟨S_, .f32⟩
  | 109 => ⟨S4x2048, .f32⟩
  | 110 => ⟨S4x2048x1, .f32⟩
  | 111 => ⟨S4x2048x2048, .f32⟩
  | 112 => ⟨S4x2048x2048, .f32⟩
  | 113 => ⟨S4x2048x32x12, .f32⟩
  | 114 => ⟨S4x32x2048x12, .f32⟩
  | 115 => ⟨S4x128x2048x12, .f32⟩
  | 116 => ⟨S4x2048x12x32, .f32⟩
  | 117 => ⟨S4x32x2048x12, .f32⟩
  | 118 => ⟨S1x32x1x1, .f32⟩
  | 119 => ⟨S4x32x2048x12, .f32⟩
  | 120 => ⟨S4x32x2048x12, .f32⟩
  | 121 => ⟨S4x1x2048x2048, .f32⟩
  | 122 => ⟨S4x2048x2048, .f32⟩
  | 123 => ⟨S4x2048x10, .f32⟩
  | 124 => ⟨S4x2048x10, .i32⟩
  | 125 => ⟨S_, .f32⟩
  | 126 => ⟨S4x2048x2048, .f32⟩
  | 127 => ⟨S4, .i32⟩
  | _ => ⟨S4x32x2048x12, .f32⟩

abbrev hbmTy0_3 (i : Nat) : BufTy := match i % 128 with
  | 0 => ⟨S4x1x1, .i32⟩
  | 1 => ⟨S2048, .i32⟩
  | 2 => ⟨S1x2048x1, .i32⟩
  | 3 => ⟨S_, .i32⟩
  | 4 => ⟨S4x1x1, .i32⟩
  | 5 => ⟨S4x1x1, .i1⟩
  | 6 => ⟨S_, .i32⟩
  | 7 => ⟨S4x1x1, .i32⟩
  | 8 => ⟨S4x1x1, .i32⟩
  | 9 => ⟨S4x1x1, .i32⟩
  | 10 => ⟨S_, .i32⟩
  | 11 => ⟨S1x2048x1, .i32⟩
  | 12 => ⟨S1x2048x1, .i1⟩
  | 13 => ⟨S_, .i32⟩
  | 14 => ⟨S1x2048x1, .i32⟩
  | 15 => ⟨S1x2048x1, .i32⟩
  | 16 => ⟨S1x2048x1, .i32⟩
  | 17 => ⟨S_, .i32⟩
  | 18 => ⟨S4x2048x10, .i32⟩
  | 19 => ⟨S4x2048x10, .i1⟩
  | 20 => ⟨S_, .i32⟩
  | 21 => ⟨S4x2048x10, .i32⟩
  | 22 => ⟨S4x2048x10, .i32⟩
  | 23 => ⟨S4x2048x10, .i32⟩
  | 24 => ⟨S4x2048x10, .i32⟩
  | 25 => ⟨S4x2048x10, .i32⟩
  | 26 => ⟨S4x2048x10x1, .i32⟩
  | 27 => ⟨S4x2048x10x1, .i32⟩
  | 28 => ⟨S4x2048x10x1, .i32⟩
  | 29 => ⟨S4x2048x10x3, .i32⟩
  | 30 => ⟨S4x2048x2048, .f32⟩
  | 31 => ⟨S_, .f32⟩
  | 32 => ⟨S4x2048, .f32⟩
  | 33 => ⟨S_, .f32⟩
  | 34 => ⟨S4x2048, .f32⟩
  | 35 => ⟨S4x2048, .f32⟩
  | 36 => ⟨S4x2048x1, .f32⟩
  | 37 => ⟨S4x2048x2048, .f32⟩
  | 38 => ⟨S4x2048x2048, .f32⟩
  | 39 => ⟨S4x2048x2048, .f32⟩
  | 40 => ⟨S_, .f32⟩
  | 41 => ⟨S4x2048, .f32⟩
  | 42 => ⟨S4x2048x1, .f32⟩
  | 43 => ⟨S4x2048x2048, .f32⟩
  | 44 => ⟨S4x2048x2048, .f32⟩
  | 45 => ⟨S4x2048x32x12, .f32⟩
  | 46 => ⟨S4x32x2048x12, .f32⟩
  | 47 => ⟨S4x2048x20, .f32⟩
  | 48 => ⟨S4x2048x20, .i32⟩
  | 49 => ⟨S_, .f32⟩
  | 50 => ⟨S4x2048x2048, .f32⟩
  | 51 => ⟨S4, .i32⟩
  | 52 => ⟨S4x1x1, .i32⟩
  | 53 => ⟨S2048, .i32⟩
  | 54 => ⟨S1x2048x1, .i32⟩
  | 55 => ⟨S_, .i32⟩
  | 56 => ⟨S4x1x1, .i32⟩
  | 57 => ⟨S4x1x1, .i1⟩
  | 58 => ⟨S_, .i32⟩
  | 59 => ⟨S4x1x1, .i32⟩
  | 60 => ⟨S4x1x1, .i32⟩
  | 61 => ⟨S4x1x1, .i32⟩
  | 62 => ⟨S_, .i32⟩
  | 63 => ⟨S1x2048x1, .i32⟩
  | 64 => ⟨S1x2048x1, .i1⟩
  | 65 => ⟨S_, .i32⟩
  | 66 => ⟨S1x2048x1, .i32⟩
  | 67 => ⟨S1x2048x1, .i32⟩
  | 68 => ⟨S1x2048x1, .i32⟩
  | 69 => ⟨S_, .i32⟩
  | 70 => ⟨S4x2048x20, .i32⟩
  | 71 => ⟨S4x2048x20, .i1⟩
  | 72 => ⟨S_, .i32⟩
  | 73 => ⟨S4x2048x20, .i32⟩
  | 74 => ⟨S4x2048x20, .i32⟩
  | 75 => ⟨S4x2048x20, .i32⟩
  | 76 => ⟨S4x2048x20, .i32⟩
  | 77 => ⟨S4x2048x20, .i32⟩
  | 78 => ⟨S4x2048x20x1, .i32⟩
  | 79 => ⟨S4x2048x20x1, .i32⟩
  | 80 => ⟨S4x2048x20x1, .i32⟩
  | 81 => ⟨S4x2048x20x3, .i32⟩
  | 82 => ⟨S4x2048x2048, .f32⟩
  | 83 => ⟨S_, .f32⟩
  | 84 => ⟨S4x2048, .f32⟩
  | 85 => ⟨S_, .f32⟩
  | 86 => ⟨S4x2048, .f32⟩
  | 87 => ⟨S4x2048, .f32⟩
  | 88 => ⟨S4x2048x1, .f32⟩
  | 89 => ⟨S4x2048x2048, .f32⟩
  | 90 => ⟨S4x2048x2048, .f32⟩
  | 91 => ⟨S4x2048x2048, .f32⟩
  | 92 => ⟨S_, .f32⟩
  | 93 => ⟨S4x2048, .f32⟩
  | 94 => ⟨S4x2048x1, .f32⟩
  | 95 => ⟨S4x2048x2048, .f32⟩
  | 96 => ⟨S4x2048x2048, .f32⟩
  | 97 => ⟨S4x2048x32x12, .f32⟩
  | 98 => ⟨S4x32x2048x12, .f32⟩
  | 99 => ⟨S4x2048x40, .f32⟩
  | 100 => ⟨S4x2048x40, .i32⟩
  | 101 => ⟨S_, .f32⟩
  | 102 => ⟨S4x2048x2048, .f32⟩
  | 103 => ⟨S4, .i32⟩
  | 104 => ⟨S4x1x1, .i32⟩
  | 105 => ⟨S2048, .i32⟩
  | 106 => ⟨S1x2048x1, .i32⟩
  | 107 => ⟨S_, .i32⟩
  | 108 => ⟨S4x1x1, .i32⟩
  | 109 => ⟨S4x1x1, .i1⟩
  | 110 => ⟨S_, .i32⟩
  | 111 => ⟨S4x1x1, .i32⟩
  | 112 => ⟨S4x1x1, .i32⟩
  | 113 => ⟨S4x1x1, .i32⟩
  | 114 => ⟨S_, .i32⟩
  | 115 => ⟨S1x2048x1, .i32⟩
  | 116 => ⟨S1x2048x1, .i1⟩
  | 117 => ⟨S_, .i32⟩
  | 118 => ⟨S1x2048x1, .i32⟩
  | 119 => ⟨S1x2048x1, .i32⟩
  | 120 => ⟨S1x2048x1, .i32⟩
  | 121 => ⟨S_, .i32⟩
  | 122 => ⟨S4x2048x40, .i32⟩
  | 123 => ⟨S4x2048x40, .i1⟩
  | 124 => ⟨S_, .i32⟩
  | 125 => ⟨S4x2048x40, .i32⟩
  | 126 => ⟨S4x2048x40, .i32⟩
  | 127 => ⟨S4x2048x40, .i32⟩
  | _ => ⟨S4x32x2048x12, .f32⟩

abbrev hbmTy0_4 (i : Nat) : BufTy := match i % 128 with
  | 0 => ⟨S4x2048x40, .i32⟩
  | 1 => ⟨S4x2048x40, .i32⟩
  | 2 => ⟨S4x2048x40x1, .i32⟩
  | 3 => ⟨S4x2048x40x1, .i32⟩
  | 4 => ⟨S4x2048x40x1, .i32⟩
  | 5 => ⟨S4x2048x40x3, .i32⟩
  | 6 => ⟨S4x2048x2048, .f32⟩
  | 7 => ⟨S_, .f32⟩
  | 8 => ⟨S4x2048, .f32⟩
  | 9 => ⟨S_, .f32⟩
  | 10 => ⟨S4x2048, .f32⟩
  | 11 => ⟨S4x2048, .f32⟩
  | 12 => ⟨S4x2048x1, .f32⟩
  | 13 => ⟨S4x2048x2048, .f32⟩
  | 14 => ⟨S4x2048x2048, .f32⟩
  | 15 => ⟨S4x2048x2048, .f32⟩
  | 16 => ⟨S_, .f32⟩
  | 17 => ⟨S4x2048, .f32⟩
  | 18 => ⟨S4x2048x1, .f32⟩
  | 19 => ⟨S4x2048x2048, .f32⟩
  | 20 => ⟨S4x2048x2048, .f32⟩
  | 21 => ⟨S4x2048x32x12, .f32⟩
  | 22 => ⟨S4x32x2048x12, .f32⟩
  | 23 => ⟨S_, .f32⟩
  | 24 => ⟨S4x2048, .f32⟩
  | 25 => ⟨S_, .f32⟩
  | 26 => ⟨S4x2048, .f32⟩
  | 27 => ⟨S4x2048, .f32⟩
  | 28 => ⟨S4x2048x1, .f32⟩
  | 29 => ⟨S4x2048x2048, .f32⟩
  | 30 => ⟨S4x2048x2048, .f32⟩
  | 31 => ⟨S4x2048x2048, .f32⟩
  | 32 => ⟨S_, .f32⟩
  | 33 => ⟨S4x2048, .f32⟩
  | 34 => ⟨S4x2048x1, .f32⟩
  | 35 => ⟨S4x2048x2048, .f32⟩
  | 36 => ⟨S4x2048x2048, .f32⟩
  | 37 => ⟨S4x2048x32x12, .f32⟩
  | 38 => ⟨S4x32x2048x12, .f32⟩
  | 39 => ⟨S4x128x2048x12, .f32⟩
  | 40 => ⟨S4x2048x12x32, .f32⟩
  | 41 => ⟨S4x32x2048x12, .f32⟩
  | 42 => ⟨S1x32x1x1, .f32⟩
  | 43 => ⟨S4x32x2048x12, .f32⟩
  | 44 => ⟨S4x32x2048x12, .f32⟩
  | 45 => ⟨S4x128x2048x12, .f32⟩
  | 46 => ⟨S4x2048x12x32, .f32⟩
  | 47 => ⟨S4x32x2048x12, .f32⟩
  | 48 => ⟨S1x32x1x1, .f32⟩
  | 49 => ⟨S4x32x2048x12, .f32⟩
  | 50 => ⟨S4x32x2048x12, .f32⟩
  | _ => ⟨S4x32x2048x12, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x32x2048x12, .f32⟩

abbrev bufTy : (tb : Table) → Fin (tcTables nBuf tb) → BufTy
  | .hbm, ⟨i, _⟩ => hbmTy i
  | _, _ => ⟨S4x32x2048x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_values : Ref sig .tc := ⟨.hbm, 19, rfl⟩
abbrev main_indices : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_values_8 : Ref sig .tc := ⟨.hbm, 71, rfl⟩
abbrev main_indices_9 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_c_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_v74 : Ref sig .tc := ⟨.hbm, 108, rfl⟩
abbrev main_cst_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_19 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_values_20 : Ref sig .tc := ⟨.hbm, 123, rfl⟩
abbrev main_indices_21 : Ref sig .tc := ⟨.hbm, 124, rfl⟩
abbrev main_cst_22 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_23 : Ref sig .tc := ⟨.hbm, 131, rfl⟩
abbrev main_v92 : Ref sig .tc := ⟨.hbm, 132, rfl⟩
abbrev main_v93 : Ref sig .tc := ⟨.hbm, 133, rfl⟩
abbrev main_c_24 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_25 : Ref sig .tc := ⟨.hbm, 138, rfl⟩
abbrev main_v97 : Ref sig .tc := ⟨.hbm, 139, rfl⟩
abbrev main_v98 : Ref sig .tc := ⟨.hbm, 140, rfl⟩
abbrev main_c_26 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_27 : Ref sig .tc := ⟨.hbm, 145, rfl⟩
abbrev main_v102 : Ref sig .tc := ⟨.hbm, 146, rfl⟩
abbrev main_v103 : Ref sig .tc := ⟨.hbm, 147, rfl⟩
abbrev main_c_28 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_29 : Ref sig .tc := ⟨.hbm, 159, rfl⟩
abbrev main_v114 : Ref sig .tc := ⟨.hbm, 160, rfl⟩
abbrev main_cst_30 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_31 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_32 : Ref sig .tc := ⟨.hbm, 175, rfl⟩
abbrev main_v127 : Ref sig .tc := ⟨.hbm, 176, rfl⟩
abbrev main_cst_33 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_34 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_values_35 : Ref sig .tc := ⟨.hbm, 199, rfl⟩
abbrev main_indices_36 : Ref sig .tc := ⟨.hbm, 200, rfl⟩
abbrev main_cst_37 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_c_38 : Ref sig .tc := ⟨.hbm, 207, rfl⟩
abbrev main_v153 : Ref sig .tc := ⟨.hbm, 208, rfl⟩
abbrev main_v154 : Ref sig .tc := ⟨.hbm, 209, rfl⟩
abbrev main_c_39 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_c_40 : Ref sig .tc := ⟨.hbm, 214, rfl⟩
abbrev main_v158 : Ref sig .tc := ⟨.hbm, 215, rfl⟩
abbrev main_v159 : Ref sig .tc := ⟨.hbm, 216, rfl⟩
abbrev main_c_41 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_c_42 : Ref sig .tc := ⟨.hbm, 221, rfl⟩
abbrev main_v163 : Ref sig .tc := ⟨.hbm, 222, rfl⟩
abbrev main_v164 : Ref sig .tc := ⟨.hbm, 223, rfl⟩
abbrev main_c_43 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_44 : Ref sig .tc := ⟨.hbm, 235, rfl⟩
abbrev main_v175 : Ref sig .tc := ⟨.hbm, 236, rfl⟩
abbrev main_cst_45 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_46 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_values_47 : Ref sig .tc := ⟨.hbm, 251, rfl⟩
abbrev main_indices_48 : Ref sig .tc := ⟨.hbm, 252, rfl⟩
abbrev main_cst_49 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_c_50 : Ref sig .tc := ⟨.hbm, 259, rfl⟩
abbrev main_v193 : Ref sig .tc := ⟨.hbm, 260, rfl⟩
abbrev main_v194 : Ref sig .tc := ⟨.hbm, 261, rfl⟩
abbrev main_c_51 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_c_52 : Ref sig .tc := ⟨.hbm, 266, rfl⟩
abbrev main_v198 : Ref sig .tc := ⟨.hbm, 267, rfl⟩
abbrev main_v199 : Ref sig .tc := ⟨.hbm, 268, rfl⟩
abbrev main_c_53 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_c_54 : Ref sig .tc := ⟨.hbm, 273, rfl⟩
abbrev main_v203 : Ref sig .tc := ⟨.hbm, 274, rfl⟩
abbrev main_v204 : Ref sig .tc := ⟨.hbm, 275, rfl⟩
abbrev main_c_55 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_cst_56 : Ref sig .tc := ⟨.hbm, 287, rfl⟩
abbrev main_v215 : Ref sig .tc := ⟨.hbm, 288, rfl⟩
abbrev main_cst_57 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_cst_58 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_values_59 : Ref sig .tc := ⟨.hbm, 303, rfl⟩
abbrev main_indices_60 : Ref sig .tc := ⟨.hbm, 304, rfl⟩
abbrev main_cst_61 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_c_62 : Ref sig .tc := ⟨.hbm, 311, rfl⟩
abbrev main_v233 : Ref sig .tc := ⟨.hbm, 312, rfl⟩
abbrev main_v234 : Ref sig .tc := ⟨.hbm, 313, rfl⟩
abbrev main_c_63 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_c_64 : Ref sig .tc := ⟨.hbm, 318, rfl⟩
abbrev main_v238 : Ref sig .tc := ⟨.hbm, 319, rfl⟩
abbrev main_v239 : Ref sig .tc := ⟨.hbm, 320, rfl⟩
abbrev main_c_65 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_c_66 : Ref sig .tc := ⟨.hbm, 325, rfl⟩
abbrev main_v243 : Ref sig .tc := ⟨.hbm, 326, rfl⟩
abbrev main_v244 : Ref sig .tc := ⟨.hbm, 327, rfl⟩
abbrev main_c_67 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_cst_68 : Ref sig .tc := ⟨.hbm, 339, rfl⟩
abbrev main_v255 : Ref sig .tc := ⟨.hbm, 340, rfl⟩
abbrev main_cst_69 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_cst_70 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_cst_71 : Ref sig .tc := ⟨.hbm, 355, rfl⟩
abbrev main_v268 : Ref sig .tc := ⟨.hbm, 356, rfl⟩
abbrev main_cst_72 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_cst_73 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_values_74 : Ref sig .tc := ⟨.hbm, 379, rfl⟩
abbrev main_indices_75 : Ref sig .tc := ⟨.hbm, 380, rfl⟩
abbrev main_cst_76 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_c_77 : Ref sig .tc := ⟨.hbm, 387, rfl⟩
abbrev main_v294 : Ref sig .tc := ⟨.hbm, 388, rfl⟩
abbrev main_v295 : Ref sig .tc := ⟨.hbm, 389, rfl⟩
abbrev main_c_78 : Ref sig .tc := ⟨.hbm, 390, rfl⟩
abbrev main_v296 : Ref sig .tc := ⟨.hbm, 391, rfl⟩
abbrev main_v297 : Ref sig .tc := ⟨.hbm, 392, rfl⟩
abbrev main_v298 : Ref sig .tc := ⟨.hbm, 393, rfl⟩
abbrev main_c_79 : Ref sig .tc := ⟨.hbm, 394, rfl⟩
abbrev main_v299 : Ref sig .tc := ⟨.hbm, 395, rfl⟩
abbrev main_v300 : Ref sig .tc := ⟨.hbm, 396, rfl⟩
abbrev main_c_80 : Ref sig .tc := ⟨.hbm, 397, rfl⟩
abbrev main_v301 : Ref sig .tc := ⟨.hbm, 398, rfl⟩
abbrev main_v302 : Ref sig .tc := ⟨.hbm, 399, rfl⟩
abbrev main_v303 : Ref sig .tc := ⟨.hbm, 400, rfl⟩
abbrev main_c_81 : Ref sig .tc := ⟨.hbm, 401, rfl⟩
abbrev main_v304 : Ref sig .tc := ⟨.hbm, 402, rfl⟩
abbrev main_v305 : Ref sig .tc := ⟨.hbm, 403, rfl⟩
abbrev main_c_82 : Ref sig .tc := ⟨.hbm, 404, rfl⟩
abbrev main_v306 : Ref sig .tc := ⟨.hbm, 405, rfl⟩
abbrev main_v307 : Ref sig .tc := ⟨.hbm, 406, rfl⟩
abbrev main_v308 : Ref sig .tc := ⟨.hbm, 407, rfl⟩
abbrev main_v309 : Ref sig .tc := ⟨.hbm, 408, rfl⟩
abbrev main_v310 : Ref sig .tc := ⟨.hbm, 409, rfl⟩
abbrev main_v311 : Ref sig .tc := ⟨.hbm, 410, rfl⟩
abbrev main_v312 : Ref sig .tc := ⟨.hbm, 411, rfl⟩
abbrev main_v313 : Ref sig .tc := ⟨.hbm, 412, rfl⟩
abbrev main_v314 : Ref sig .tc := ⟨.hbm, 413, rfl⟩
abbrev main_v315 : Ref sig .tc := ⟨.hbm, 414, rfl⟩
abbrev main_cst_83 : Ref sig .tc := ⟨.hbm, 415, rfl⟩
abbrev main_v316 : Ref sig .tc := ⟨.hbm, 416, rfl⟩
abbrev main_cst_84 : Ref sig .tc := ⟨.hbm, 417, rfl⟩
abbrev main_v317 : Ref sig .tc := ⟨.hbm, 418, rfl⟩
abbrev main_v318 : Ref sig .tc := ⟨.hbm, 419, rfl⟩
abbrev main_v319 : Ref sig .tc := ⟨.hbm, 420, rfl⟩
abbrev main_v320 : Ref sig .tc := ⟨.hbm, 421, rfl⟩
abbrev main_v321 : Ref sig .tc := ⟨.hbm, 422, rfl⟩
abbrev main_v322 : Ref sig .tc := ⟨.hbm, 423, rfl⟩
abbrev main_cst_85 : Ref sig .tc := ⟨.hbm, 424, rfl⟩
abbrev main_v323 : Ref sig .tc := ⟨.hbm, 425, rfl⟩
abbrev main_v324 : Ref sig .tc := ⟨.hbm, 426, rfl⟩
abbrev main_v325 : Ref sig .tc := ⟨.hbm, 427, rfl⟩
abbrev main_v326 : Ref sig .tc := ⟨.hbm, 428, rfl⟩
abbrev main_v327 : Ref sig .tc := ⟨.hbm, 429, rfl⟩
abbrev main_v328 : Ref sig .tc := ⟨.hbm, 430, rfl⟩
abbrev main_values_86 : Ref sig .tc := ⟨.hbm, 431, rfl⟩
abbrev main_indices_87 : Ref sig .tc := ⟨.hbm, 432, rfl⟩
abbrev main_cst_88 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_v332 : Ref sig .tc := ⟨.hbm, 437, rfl⟩
abbrev main_v333 : Ref sig .tc := ⟨.hbm, 438, rfl⟩
abbrev main_c_89 : Ref sig .tc := ⟨.hbm, 439, rfl⟩
abbrev main_v334 : Ref sig .tc := ⟨.hbm, 440, rfl⟩
abbrev main_v335 : Ref sig .tc := ⟨.hbm, 441, rfl⟩
abbrev main_c_90 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_c_91 : Ref sig .tc := ⟨.hbm, 446, rfl⟩
abbrev main_v339 : Ref sig .tc := ⟨.hbm, 447, rfl⟩
abbrev main_v340 : Ref sig .tc := ⟨.hbm, 448, rfl⟩
abbrev main_c_92 : Ref sig .tc := ⟨.hbm, 449, rfl⟩
abbrev main_v341 : Ref sig .tc := ⟨.hbm, 450, rfl⟩
abbrev main_v342 : Ref sig .tc := ⟨.hbm, 451, rfl⟩
abbrev main_v343 : Ref sig .tc := ⟨.hbm, 452, rfl⟩
abbrev main_c_93 : Ref sig .tc := ⟨.hbm, 453, rfl⟩
abbrev main_v344 : Ref sig .tc := ⟨.hbm, 454, rfl⟩
abbrev main_v345 : Ref sig .tc := ⟨.hbm, 455, rfl⟩
abbrev main_c_94 : Ref sig .tc := ⟨.hbm, 456, rfl⟩
abbrev main_v346 : Ref sig .tc := ⟨.hbm, 457, rfl⟩
abbrev main_v347 : Ref sig .tc := ⟨.hbm, 458, rfl⟩
abbrev main_v348 : Ref sig .tc := ⟨.hbm, 459, rfl⟩
abbrev main_v349 : Ref sig .tc := ⟨.hbm, 460, rfl⟩
abbrev main_v350 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_v354 : Ref sig .tc := ⟨.hbm, 465, rfl⟩
abbrev main_v355 : Ref sig .tc := ⟨.hbm, 466, rfl⟩
abbrev main_cst_95 : Ref sig .tc := ⟨.hbm, 467, rfl⟩
abbrev main_v356 : Ref sig .tc := ⟨.hbm, 468, rfl⟩
abbrev main_cst_96 : Ref sig .tc := ⟨.hbm, 469, rfl⟩
abbrev main_v357 : Ref sig .tc := ⟨.hbm, 470, rfl⟩
abbrev main_v358 : Ref sig .tc := ⟨.hbm, 471, rfl⟩
abbrev main_v359 : Ref sig .tc := ⟨.hbm, 472, rfl⟩
abbrev main_v360 : Ref sig .tc := ⟨.hbm, 473, rfl⟩
abbrev main_v361 : Ref sig .tc := ⟨.hbm, 474, rfl⟩
abbrev main_v362 : Ref sig .tc := ⟨.hbm, 475, rfl⟩
abbrev main_cst_97 : Ref sig .tc := ⟨.hbm, 476, rfl⟩
abbrev main_v363 : Ref sig .tc := ⟨.hbm, 477, rfl⟩
abbrev main_v364 : Ref sig .tc := ⟨.hbm, 478, rfl⟩
abbrev main_v365 : Ref sig .tc := ⟨.hbm, 479, rfl⟩
abbrev main_v366 : Ref sig .tc := ⟨.hbm, 480, rfl⟩
abbrev main_v367 : Ref sig .tc := ⟨.hbm, 481, rfl⟩
abbrev main_v368 : Ref sig .tc := ⟨.hbm, 482, rfl⟩
abbrev main_values_98 : Ref sig .tc := ⟨.hbm, 483, rfl⟩
abbrev main_indices_99 : Ref sig .tc := ⟨.hbm, 484, rfl⟩
abbrev main_cst_100 : Ref sig .tc := ⟨.hbm, 485, rfl⟩
abbrev main_v369 : Ref sig .tc := ⟨.hbm, 486, rfl⟩
abbrev main_v370 : Ref sig .tc := ⟨.hbm, 487, rfl⟩
abbrev main_v371 : Ref sig .tc := ⟨.hbm, 488, rfl⟩
abbrev main_v372 : Ref sig .tc := ⟨.hbm, 489, rfl⟩
abbrev main_v373 : Ref sig .tc := ⟨.hbm, 490, rfl⟩
abbrev main_c_101 : Ref sig .tc := ⟨.hbm, 491, rfl⟩
abbrev main_v374 : Ref sig .tc := ⟨.hbm, 492, rfl⟩
abbrev main_v375 : Ref sig .tc := ⟨.hbm, 493, rfl⟩
abbrev main_c_102 : Ref sig .tc := ⟨.hbm, 494, rfl⟩
abbrev main_v376 : Ref sig .tc := ⟨.hbm, 495, rfl⟩
abbrev main_v377 : Ref sig .tc := ⟨.hbm, 496, rfl⟩
abbrev main_v378 : Ref sig .tc := ⟨.hbm, 497, rfl⟩
abbrev main_c_103 : Ref sig .tc := ⟨.hbm, 498, rfl⟩
abbrev main_v379 : Ref sig .tc := ⟨.hbm, 499, rfl⟩
abbrev main_v380 : Ref sig .tc := ⟨.hbm, 500, rfl⟩
abbrev main_c_104 : Ref sig .tc := ⟨.hbm, 501, rfl⟩
abbrev main_v381 : Ref sig .tc := ⟨.hbm, 502, rfl⟩
abbrev main_v382 : Ref sig .tc := ⟨.hbm, 503, rfl⟩
abbrev main_v383 : Ref sig .tc := ⟨.hbm, 504, rfl⟩
abbrev main_c_105 : Ref sig .tc := ⟨.hbm, 505, rfl⟩
abbrev main_v384 : Ref sig .tc := ⟨.hbm, 506, rfl⟩
abbrev main_v385 : Ref sig .tc := ⟨.hbm, 507, rfl⟩
abbrev main_c_106 : Ref sig .tc := ⟨.hbm, 508, rfl⟩
abbrev main_v386 : Ref sig .tc := ⟨.hbm, 509, rfl⟩
abbrev main_v387 : Ref sig .tc := ⟨.hbm, 510, rfl⟩
abbrev main_v388 : Ref sig .tc := ⟨.hbm, 511, rfl⟩
abbrev main_v389 : Ref sig .tc := ⟨.hbm, 512, rfl⟩
abbrev main_v390 : Ref sig .tc := ⟨.hbm, 513, rfl⟩
abbrev main_v391 : Ref sig .tc := ⟨.hbm, 514, rfl⟩
abbrev main_v392 : Ref sig .tc := ⟨.hbm, 515, rfl⟩
abbrev main_v393 : Ref sig .tc := ⟨.hbm, 516, rfl⟩
abbrev main_v394 : Ref sig .tc := ⟨.hbm, 517, rfl⟩
abbrev main_v395 : Ref sig .tc := ⟨.hbm, 518, rfl⟩
abbrev main_cst_107 : Ref sig .tc := ⟨.hbm, 519, rfl⟩
abbrev main_v396 : Ref sig .tc := ⟨.hbm, 520, rfl⟩
abbrev main_cst_108 : Ref sig .tc := ⟨.hbm, 521, rfl⟩
abbrev main_v397 : Ref sig .tc := ⟨.hbm, 522, rfl⟩
abbrev main_v398 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_cst_109 : Ref sig .tc := ⟨.hbm, 528, rfl⟩
abbrev main_v403 : Ref sig .tc := ⟨.hbm, 529, rfl⟩
abbrev main_v404 : Ref sig .tc := ⟨.hbm, 530, rfl⟩
abbrev main_v405 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_cst_110 : Ref sig .tc := ⟨.hbm, 535, rfl⟩
abbrev main_v409 : Ref sig .tc := ⟨.hbm, 536, rfl⟩
abbrev main_cst_111 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_cst_112 : Ref sig .tc := ⟨.hbm, 544, rfl⟩
abbrev main_v416 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_v420 : Ref sig .tc := ⟨.hbm, 549, rfl⟩
abbrev main_v421 : Ref sig .tc := ⟨.hbm, 550, rfl⟩
abbrev main_v422 : Ref sig .tc := ⟨.hbm, 551, rfl⟩
abbrev main_v423 : Ref sig .tc := ⟨.hbm, 552, rfl⟩
abbrev main_v424 : Ref sig .tc := ⟨.hbm, 553, rfl⟩
abbrev main_v425 : Ref sig .tc := ⟨.hbm, 554, rfl⟩
abbrev main_v426 : Ref sig .tc := ⟨.hbm, 555, rfl⟩
abbrev main_v427 : Ref sig .tc := ⟨.hbm, 556, rfl⟩
abbrev main_v428 : Ref sig .tc := ⟨.hbm, 557, rfl⟩
abbrev main_v429 : Ref sig .tc := ⟨.hbm, 558, rfl⟩
abbrev main_v430 : Ref sig .tc := ⟨.hbm, 559, rfl⟩
abbrev main_v431 : Ref sig .tc := ⟨.hbm, 560, rfl⟩
abbrev main_v432 : Ref sig .tc := ⟨.hbm, 561, rfl⟩
abbrev main_v433 : Ref sig .tc := ⟨.hbm, 562, rfl⟩

abbrev nD : Nat := 1
abbrev τ : Topo := Topo.v7x

variable {F : FTy → Type} [FloatOps F]
-- ==== Proof.Frames.lean ====
/-
  The frame claims of the three programs, the one claim about the kernel's named constant, and the shape facts the
  precondition states.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The shape relations the precondition's operations state, each decided. -/
instance preFacts : Cert.Pre_inputs_ok.Facts where
  sliceFits_S4x3x2048x2048_S4x3x2048x41 := by decide
  bcast_S_S4x32x2048x12 := by decide
  bcast_S_S4x3x2048x2048 := by decide
  bcast_S_S32x32 := by decide
  bcast_S_S32 := by decide
  bcast_S_S32x128 := by decide
  slices_S4x3x2048x41_S4x3x2048x40_0_0_0_1 := by decide
  slices_S4x3x2048x41_S4x3x2048x40_0_0_0_0 := by decide

/-- The kernel on bit patterns runs and leaves its arguments unchanged. -/
theorem frame_p : Cert.quiescent_Kernel := fun m ρ _ => Cert.Kernel.Gen.frame (F := Bits) m ρ

/-- The kernel over the extended reals runs and leaves its arguments unchanged. -/
theorem frame_pi : Cert.quiescent_KernelIdeal := fun m ρ _ => Cert.KernelIdeal.Gen.frame (F := Ideal) m ρ

/-- The same of the inputs that satisfy the precondition. -/
theorem frame_pi_pre : Cert.quiescent_KernelIdeal_pre_inputs_ok := fun m ρ _ => Cert.KernelIdeal.Gen.frame (F := Ideal) m ρ

/-- The reference runs and leaves its arguments unchanged. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same of the inputs that satisfy the precondition. -/
theorem frame_ri_pre : Cert.quiescent_ReferenceIdeal_pre_inputs_ok := fun m ρ _ => frame_ri m ρ trivial

/-- The constant the kernel writes over a removed entry, named: on bit patterns it is the printed constant, over the
    extended reals it is `-∞`. -/
theorem preserves : Cert.preserves_Kernel_KernelIdeal :=
  IdealRules.named_const.statement Cert.KernelIdeal.κ "removed" .f32 0xFF61B1E6#32 ⊥ rfl

end Cert.Proof

end
-- ==== Proof.Row.lean ====
/-
  One row of a support matrix: its descending order, its k-th greatest entry, the rounds that strip the greatest entry,
  and the masked softmax weights. Everything here is about a function of 2048 real entries; no program appears.
-/
module

public import Idealize.ShloMosaic.Lib.SortFacts
public import Idealize.ShloMosaic.PureOps.Ideal.Laws

@[expose] public section

noncomputable section

namespace Cert.Proof

open Idealize.ShloMosaic

/-- The positions of a row in the order a stable descending sort puts them. -/
def ord (r : Fin 2048 → ℝ) : Fin 2048 → Fin 2048 := sortedFrom fun k k' => decide (r k' < r k)

/-- The `j`-th greatest entry of a row, counted from zero. -/
def nth (r : Fin 2048 → ℝ) (j : ℕ) : ℝ := r (ord r ⟨j % 2048, by omega⟩)

/-- The 40 greatest entries of a row are distinct and above the rest. -/
def Strict (r : Fin 2048 → ℝ) : Prop := ∀ j, j < 40 → nth r (j + 1) < nth r j

variable {r : Fin 2048 → ℝ}

/-- Every position has a place in the order. -/
theorem ord_surj (w : Fin 2048) : ∃ i, ord r i = w := sortedFrom_surjective _ w

/-- No position has two places in the order. -/
theorem ord_inj : Function.Injective (ord r) := sortedFrom_injective _

/-- The order is descending. -/
theorem ord_anti {i j : Fin 2048} (h : i ≤ j) : r (ord r j) ≤ r (ord r i) := by
  rcases h.lt_or_eq with h | rfl
  · have := sortedFrom_noInversion (fun k k' => decide (r k' < r k)) (fun k k' => decide (r k' < r k))
      (fun a b h => by simp only [decide_eq_true_eq, decide_eq_false_iff_not] at h ⊢; exact not_lt.mpr h.le)
      (fun _ _ h => h)
      (fun a b c h h' => by
        simp only [decide_eq_false_iff_not, not_lt] at h h' ⊢; exact h.trans h')
      i j h
    simpa [ord] using this
  · exact le_rfl

/-- The entry at a place of the order, by the place. -/
theorem nth_eq (i : Fin 2048) : nth r i.val = r (ord r i) := by
  unfold nth
  congr 2
  exact Fin.ext (Nat.mod_eq_of_lt i.isLt)

/-- The entry at a place of the order, by the place's number. -/
theorem nth_eq' {j : ℕ} (h : j < 2048) : nth r j = r (ord r ⟨j, h⟩) := nth_eq ⟨j, h⟩

/-- Every entry is at most the greatest. -/
theorem le_nth_zero (w : Fin 2048) : r w ≤ nth r 0 := by
  obtain ⟨i, rfl⟩ := ord_surj (r := r) w
  rw [nth_eq' (by norm_num)]
  exact ord_anti (Fin.le_def.mpr (Nat.zero_le _))

/-- The entry at place `i` of the order is at least the `j`-th greatest exactly when `i ≤ j`. -/
theorem nth_le_iff (hs : Strict r) {j : ℕ} (hj : j < 40) (i : Fin 2048) : nth r j ≤ r (ord r i) ↔ i.val ≤ j := by
  constructor
  · intro h
    by_contra hc
    have h1 : r (ord r i) ≤ nth r (j + 1) := by
      rw [nth_eq' (by omega)]
      exact ord_anti (Fin.le_def.mpr (by simp only; omega))
    exact absurd (h.trans h1) (not_le.mpr (hs j hj))
  · intro h
    rw [nth_eq' (by omega)]
    exact ord_anti (Fin.le_def.mpr h)

/-- The least entry is below every entry. -/
theorem nth_last_le (w : Fin 2048) : nth r 2047 ≤ r w := by
  obtain ⟨i, rfl⟩ := ord_surj (r := r) w
  rw [nth_eq' (by norm_num)]
  exact ord_anti (Fin.le_def.mpr (by simp only; omega))

/-- A maximum is attained and bounds every entry. -/
theorem fold_max_eq {f : Fin 2048 → EReal} {b M : EReal} (hb : b ≤ M) (w : Fin 2048) (hw : f w = M) (hf : ∀ k, f k ≤ M) :
    Finset.univ.fold max b f = M :=
  le_antisymm (Finset.fold_max_le M |>.mpr ⟨hb, fun k _ => hf k⟩)
    (Finset.le_fold_max M |>.mpr (Or.inr ⟨w, Finset.mem_univ w, hw.ge⟩))

/-- The greatest of the row itself. -/
theorem fold_max_row : Finset.univ.fold max ⊥ (fun w => (r w : EReal)) = (nth r 0 : EReal) :=
  fold_max_eq bot_le (ord r 0) (congrArg _ (nth_eq (r := r) 0).symm) fun k => EReal.coe_le_coe_iff.mpr (le_nth_zero k)

/-! ## The rounds -/

/-- The row after `j` rounds: the entries above the `j`-th greatest are removed. -/
def cur (r : Fin 2048 → ℝ) (j : ℕ) (w : Fin 2048) : EReal := if nth r j < r w then ⊥ else (r w : EReal)

/-- Before the first round nothing is removed. -/
theorem cur_zero (w : Fin 2048) : cur r 0 w = (r w : EReal) := if_neg (not_lt.mpr (le_nth_zero w))

/-- Each round's greatest entry is the next greatest of the row. -/
theorem fold_cur (j : ℕ) : Finset.univ.fold max ⊥ (cur r j) = (nth r j : EReal) := by
  refine fold_max_eq bot_le (ord r ⟨j % 2048, by omega⟩) (if_neg (lt_irrefl _)) fun k => ?_
  unfold cur
  split
  · exact bot_le
  · rename_i h
    exact EReal.coe_le_coe_iff.mpr (not_lt.mp h)

/-- One round removes the entries at least the greatest one. -/
theorem step_cur (hs : Strict r) {j : ℕ} (hj : j < 40) (w : Fin 2048) :
    (if (nth r j : EReal) ≤ cur r j w then ⊥ else cur r j w) = cur r (j + 1) w := by
  have hlt := hs j hj
  unfold cur
  by_cases h : nth r j < r w
  · rw [if_pos h, if_pos (hlt.trans h), ite_self]
  · rw [if_neg h]
    by_cases h' : nth r j ≤ r w
    · rw [if_pos (EReal.coe_le_coe_iff.mpr h'), if_pos (hlt.trans_le h')]
    · rw [if_neg (fun hc => h' (EReal.coe_le_coe_iff.mp hc)), if_neg]
      obtain ⟨i, rfl⟩ := ord_surj (r := r) w
      rw [nth_le_iff hs hj] at h'
      rw [nth_eq' (by omega : j + 1 < 2048), not_lt]
      exact ord_anti (Fin.le_def.mpr (by simp only; omega))

/-! ## The weights -/

/-- How many of the greatest entries each of the four softmaxes keeps; the last keeps the whole row. -/
def kept (t : Fin 4) : ℕ := ![10, 20, 40, 2048] t

/-- The unnormalised weight of an entry: its exponential below the row's greatest, or zero where it is not kept. -/
def wt (r : Fin 2048 → ℝ) (t : Fin 4) (w : Fin 2048) : ℝ :=
  if nth r (kept t - 1) ≤ r w then Real.exp (r w - nth r 0) else 0

/-- The sum of a row's weights. -/
def tot (r : Fin 2048 → ℝ) (t : Fin 4) : ℝ := ∑ w, wt r t w

/-- Without a mask every entry has its exponential. -/
theorem wt_three (w : Fin 2048) : wt r 3 w = Real.exp (r w - nth r 0) := if_pos (nth_last_le w)

/-- The `j`-th greatest entry is at most the greatest. -/
theorem nth_anti_zero (j : ℕ) : nth r j ≤ nth r 0 := le_nth_zero _

/-- A row's weights sum to a positive number. -/
theorem tot_pos (t : Fin 4) : 0 < tot r t := by
  refine Finset.sum_pos' (fun w _ => ?_) ⟨ord r 0, Finset.mem_univ _, ?_⟩
  · unfold wt; split
    · exact (Real.exp_pos _).le
    · exact le_rfl
  · unfold wt
    rw [if_pos]
    · exact Real.exp_pos _
    · exact (nth_anti_zero _).trans (nth_eq (r := r) 0).le

/-- A row's weights do not sum to zero. -/
theorem tot_ne (t : Fin 4) : tot r t ≠ 0 := (tot_pos t).ne'

/-- The row with every entry outside the kept ones at `-∞`. -/
def msk (r : Fin 2048 → ℝ) (t : Fin 4) (w : Fin 2048) : EReal := if nth r (kept t - 1) ≤ r w then (r w : EReal) else ⊥

/-- The fourth softmax keeps the whole row. -/
theorem msk_three (w : Fin 2048) : msk r 3 w = (r w : EReal) := if_pos (nth_last_le w)

/-- Masking does not change the greatest entry. -/
theorem fold_msk (t : Fin 4) : Finset.univ.fold max ⊥ (msk r t) = (nth r 0 : EReal) := by
  refine fold_max_eq bot_le (ord r 0) ?_ fun k => ?_
  · unfold msk
    rw [if_pos ((nth_anti_zero _).trans (nth_eq (r := r) 0).le)]
    exact congrArg _ (nth_eq (r := r) 0).symm
  · unfold msk
    split
    · exact EReal.coe_le_coe_iff.mpr (le_nth_zero k)
    · exact bot_le

/-- The exponential of the masked row below its greatest entry is the weight. -/
theorem exp_msk (t : Fin 4) (w : Fin 2048) : Ideal.exp (msk r t w - (nth r 0 : EReal)) = (wt r t w : EReal) := by
  unfold msk wt
  split
  · rw [← EReal.coe_sub, Ideal.exp_coe]
  · rw [EReal.bot_sub, Ideal.exp_bot, EReal.coe_zero]

/-- The positions in the first `kept t` places of the order are those whose entries are kept. -/
theorem kept_iff (hs : Strict r) (t : Fin 4) (ht : t ≠ 3) (i : Fin 2048) :
    nth r (kept t - 1) ≤ r (ord r i) ↔ i.val < kept t := by
  fin_cases t
  · exact (nth_le_iff hs (by norm_num [kept]) i).trans (by simp [kept]; omega)
  · exact (nth_le_iff hs (by norm_num [kept]) i).trans (by simp [kept]; omega)
  · exact (nth_le_iff hs (by norm_num [kept]) i).trans (by simp [kept]; omega)
  · exact absurd rfl ht

end Cert.Proof

end
-- ==== Proof.Spec.lean ====
/-
  The two programs' results as real numbers: what the kernel's grid accumulates, what the reference computes, and that
  the two are equal by the distributive law.
-/
module

public import Idealize.ShloMosaic.Lib.Pointwise
public import proofs.«01_k».proof.Proof.Row

@[expose] public section

noncomputable section

namespace Cert.Proof

open Idealize.ShloMosaic

/-- The twelve arguments as real numbers, the three supports' weights and biases together. -/
structure Data where
  X : Fin 4 → Fin 32 → Fin 2048 → Fin 12 → ℝ
  S : Fin 4 → Fin 3 → Fin 2048 → Fin 2048 → ℝ
  W0 : Fin 32 → Fin 32 → ℝ
  b0 : Fin 32 → ℝ
  Ws : Fin 3 → Fin 32 → Fin 128 → ℝ
  bs : Fin 3 → Fin 32 → ℝ
  Wf : Fin 32 → Fin 128 → ℝ
  bf : Fin 32 → ℝ

/-- A row index of the folded channel-and-time axis, its channel. -/
abbrev chan (q : Fin 384) : Fin 32 := ⟨q.val / 12, by omega⟩
/-- A row index of the folded channel-and-time axis, its time. -/
abbrev time (q : Fin 384) : Fin 12 := ⟨q.val % 12, by omega⟩
/-- Column `32 k + x` of a matrix of four column blocks. -/
abbrev col (k : Fin 4) (x : Fin 32) : Fin 128 := ⟨32 * k.val + x.val, by omega⟩
/-- Row `512 s + r` of a support, in its row block `s`. -/
abbrev vrow (s : Fin 4) (r : Fin 512) : Fin 2048 := ⟨512 * s.val + r.val, by omega⟩

/-- The twelve argument arrays hold these numbers. -/
structure Data.Is (d : Data) (x0 : (⟨4, ![4, 32, 2048, 12]⟩ : Shape).Idx → EReal)
    (x1 : (⟨4, ![4, 3, 2048, 2048]⟩ : Shape).Idx → EReal) (x2 : (⟨2, ![32, 32]⟩ : Shape).Idx → EReal)
    (x3 : (⟨1, ![32]⟩ : Shape).Idx → EReal) (x4 : (⟨2, ![32, 128]⟩ : Shape).Idx → EReal)
    (x5 : (⟨1, ![32]⟩ : Shape).Idx → EReal) (x6 : (⟨2, ![32, 128]⟩ : Shape).Idx → EReal)
    (x7 : (⟨1, ![32]⟩ : Shape).Idx → EReal) (x8 : (⟨2, ![32, 128]⟩ : Shape).Idx → EReal)
    (x9 : (⟨1, ![32]⟩ : Shape).Idx → EReal) (x10 : (⟨2, ![32, 128]⟩ : Shape).Idx → EReal)
    (x11 : (⟨1, ![32]⟩ : Shape).Idx → EReal) : Prop where
  h0 : ∀ n c v l, x0 (ix4 n c v l) = (d.X n c v l : EReal)
  h1 : ∀ n i v w, x1 (ix4 n i v w) = (d.S n i v w : EReal)
  h2 : ∀ o c, x2 (ix2 o c) = (d.W0 o c : EReal)
  h3 : ∀ o, x3 (ix1 o) = (d.b0 o : EReal)
  h4 : ∀ o q, x4 (ix2 o q) = (d.Ws 0 o q : EReal)
  h5 : ∀ o, x5 (ix1 o) = (d.bs 0 o : EReal)
  h6 : ∀ o q, x6 (ix2 o q) = (d.Ws 1 o q : EReal)
  h7 : ∀ o, x7 (ix1 o) = (d.bs 1 o : EReal)
  h8 : ∀ o q, x8 (ix2 o q) = (d.Ws 2 o q : EReal)
  h9 : ∀ o, x9 (ix1 o) = (d.bs 2 o : EReal)
  h10 : ∀ o q, x10 (ix2 o q) = (d.Wf o q : EReal)
  h11 : ∀ o, x11 (ix1 o) = (d.bf o : EReal)

/-- Equal arrays hold the same numbers. -/
theorem Data.Is.congr {d : Data} {x0 x1 x2 x3 x4 x5 x6 x7 x8 x9 x10 x11 y0 y1 y2 y3 y4 y5 y6 y7 y8 y9 y10 y11}
    (h : d.Is x0 x1 x2 x3 x4 x5 x6 x7 x8 x9 x10 x11) (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) :
    d.Is y0 y1 y2 y3 y4 y5 y6 y7 y8 y9 y10 y11 := by
  rw [e0, e1, e2, e3, e4, e5, e6, e7, e8, e9, e10, e11]
  exact h

/-- A sum of real numbers is the same over the extended reals. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

namespace Data

variable (d : Data)

/-! ## The reference -/

/-- The softmax weight from row `v` to column `w`, for support `i` and mask `t`. -/
def P (n : Fin 4) (i : Fin 3) (t : Fin 4) (v w : Fin 2048) : ℝ := wt (d.S n i v) t w / tot (d.S n i v) t

/-- Channel `c` of the graph convolution by support `i` under mask `t`. -/
def conv (n : Fin 4) (i : Fin 3) (t : Fin 4) (c : Fin 32) (w : Fin 2048) (l : Fin 12) : ℝ :=
  ∑ v, d.P n i t v w * d.X n c v l

/-- The linear map of the unconvolved input. -/
def head (n : Fin 4) (o : Fin 32) (w : Fin 2048) (l : Fin 12) : ℝ := ∑ c, d.X n c w l * d.W0 o c + d.b0 o

/-- The linear map of support `i`'s four convolutions. -/
def sup (n : Fin 4) (i : Fin 3) (o : Fin 32) (w : Fin 2048) (l : Fin 12) : ℝ :=
  ∑ t : Fin 4, ∑ c : Fin 32, d.conv n i t c w l * d.Ws i o (col t c) + d.bs i o

/-- The reference's result. -/
def out (n : Fin 4) (o : Fin 32) (w : Fin 2048) (l : Fin 12) : ℝ :=
  (∑ x, d.head n x w l * d.Wf o (col 0 x) + ∑ i : Fin 3, ∑ x, d.sup n i x w l * d.Wf o (col i.succ x)) + d.bf o

/-! ## The kernel -/

/-- The final linear map composed with the unconvolved input's. -/
def U0 (o c : Fin 32) : ℝ := ∑ x, d.Wf o (col 0 x) * d.W0 x c

/-- The composed bias. -/
def beta (o : Fin 32) : ℝ :=
  d.bf o + ∑ x, d.Wf o (col 0 x) * d.b0 x + ∑ x, d.Wf o (col 1 x) * d.bs 0 x
    + ∑ x, d.Wf o (col 2 x) * d.bs 1 x + ∑ x, d.Wf o (col 3 x) * d.bs 2 x

/-- The final linear map composed with support `i`'s, its column block for mask `t`. -/
def A (i : Fin 3) (t : Fin 4) (o c : Fin 32) : ℝ := ∑ x, d.Wf o (col i.succ x) * d.Ws i x (col t c)

/-- That map on the folded channel-and-time axis. -/
def Us (i : Fin 3) (t : Fin 4) (p q : Fin 384) : ℝ :=
  d.A i t (chan p) (chan q) * if p.val % 12 = q.val % 12 then 1 else 0

/-- The input on the folded channel-and-time axis. -/
def xt (n : Fin 4) (q : Fin 384) (v : Fin 2048) : ℝ := d.X n (chan q) v (time q)

/-- The first matrix on the folded axis, with the bias column and seven columns of zeros. -/
def U0L (p : Fin 384) (q : Fin 392) : ℝ :=
  if h : q.val < 384 then d.U0 (chan p) (chan ⟨q.val, h⟩) * if p.val % 12 = q.val % 12 then 1 else 0
  else if q.val = 384 then d.beta (chan p) else 0

/-- The folded input with a row of ones and seven rows of zeros. -/
def xt1 (n : Fin 4) (q : Fin 392) (v : Fin 2048) : ℝ :=
  if h : q.val < 384 then d.xt n ⟨q.val, h⟩ v else if q.val = 384 then 1 else 0

/-- What the first grid point of a batch entry starts from. -/
def init (n : Fin 4) (p : Fin 384) (w : Fin 2048) : ℝ := ∑ q, d.U0L p q * d.xt1 n q w

/-- What one mask adds at the grid point of support `i` and row block `s`. -/
def part (n : Fin 4) (i : Fin 3) (s : Fin 4) (t : Fin 4) (p : Fin 384) (w : Fin 2048) : ℝ :=
  ∑ r : Fin 512, ((∑ q, d.Us i t p q * d.xt n q (vrow s r)) * (1 / tot (d.S n i (vrow s r)) t)) * wt (d.S n i (vrow s r)) t w

/-- What the grid point of support `i` and row block `s` adds. -/
def point (n : Fin 4) (i : Fin 3) (s : Fin 4) (p : Fin 384) (w : Fin 2048) : ℝ := ∑ t, d.part n i s t p w

/-- What the kernel leaves for batch entry `n`. -/
def acc (n : Fin 4) (p : Fin 384) (w : Fin 2048) : ℝ := d.init n p w + ∑ i : Fin 3, ∑ s : Fin 4, d.point n i s p w

/-! ## The two are equal -/

/-- A sum over a product axis, by its two digits. -/
theorem sum_digits {m n k : ℕ} (hk : m * n = k) (f : Fin k → ℝ) :
    ∑ q, f q = ∑ a : Fin m, ∑ b : Fin n, f ⟨b.val + n * a.val, by
      have := (finProdFinEquiv (a, b)).isLt; simpa [finProdFinEquiv, hk] using this⟩ := by
  subst hk
  rw [← Fintype.sum_prod_type', ← finProdFinEquiv.sum_comp]
  rfl

/-- A row of a folded matrix against a folded column: only the row's own time remains. -/
theorem sum_kron (f g : Fin 32 → ℝ) (h : Fin 32 → Fin 12 → ℝ) (o : Fin 32) (l : Fin 12) :
    ∑ q : Fin 384, (f (chan q) * if l.val = q.val % 12 then (1 : ℝ) else 0) * h (chan q) (time q)
      = ∑ c, f c * h c l := by
  rw [sum_digits (m := 32) (n := 12) (by norm_num)]
  refine Finset.sum_congr rfl fun c _ => ?_
  have hc : ∀ b : Fin 12, chan ⟨b.val + 12 * c.val, by omega⟩ = c := fun b => Fin.ext (by simp only; omega)
  have hb : ∀ b : Fin 12, time ⟨b.val + 12 * c.val, by omega⟩ = b := fun b => Fin.ext (by simp only; omega)
  have hm : ∀ b : Fin 12, (b.val + 12 * c.val) % 12 = b.val := fun b => by omega
  simp only [hc, hb, hm]
  rw [Finset.sum_eq_single l (fun b _ hb => by rw [if_neg fun h => hb (Fin.ext h.symm)]; ring)
    (fun h => absurd (Finset.mem_univ _) h), if_pos rfl, mul_one]

/-- The starting product on the channel and time axes. -/
theorem init_eq (n : Fin 4) (o : Fin 32) (l : Fin 12) (p : Fin 384) (hp : p.val = 12 * o.val + l.val) (w : Fin 2048) :
    d.init n p w = ∑ c, d.U0 o c * d.X n c w l + d.beta o := by
  have ho : chan p = o := Fin.ext (by simp only; omega)
  have hl : p.val % 12 = l.val := by omega
  unfold init
  rw [Fin.sum_univ_add (a := 384) (b := 8) (f := fun q => d.U0L p q * d.xt1 n q w)]
  congr 1
  · rw [← sum_kron (d.U0 o) (d.U0 o) (fun c l => d.X n c w l) o l]
    refine Finset.sum_congr rfl fun q _ => ?_
    simp only [U0L, xt1, xt, Fin.val_castAdd, q.isLt, dif_pos, ho, hl]
  · rw [Fin.sum_univ_succ, Finset.sum_eq_zero]
    · simp [U0L, xt1, ho]
    · intro k _
      have : ¬ (384 + (k.val + 1) < 384) := by omega
      have h' : ¬ (384 + (k.val + 1) = 384) := by omega
      simp [U0L]

/-- One mask's addition on the channel and time axes. -/
theorem part_eq (n : Fin 4) (i : Fin 3) (s t : Fin 4) (o : Fin 32) (l : Fin 12) (p : Fin 384)
    (hp : p.val = 12 * o.val + l.val) (w : Fin 2048) :
    d.part n i s t p w = ∑ r : Fin 512, ∑ c, d.A i t o c * (d.P n i t (vrow s r) w * d.X n c (vrow s r) l) := by
  have ho : chan p = o := Fin.ext (by simp only; omega)
  have hl : p.val % 12 = l.val := by omega
  unfold part
  refine Finset.sum_congr rfl fun r _ => ?_
  have : ∑ q, d.Us i t p q * d.xt n q (vrow s r) = ∑ c, d.A i t o c * d.X n c (vrow s r) l := by
    rw [← sum_kron (d.A i t o) (d.A i t o) (fun c l => d.X n c (vrow s r) l) o l]
    simp only [Us, xt, ho, hl]
  rw [this, Finset.sum_mul, Finset.sum_mul]
  refine Finset.sum_congr rfl fun c _ => ?_
  unfold P
  ring

/-- A sum over a support's rows, by row blocks. -/
theorem sum_rows (f : Fin 2048 → ℝ) : ∑ s : Fin 4, ∑ r : Fin 512, f (vrow s r) = ∑ v, f v := by
  rw [sum_digits (m := 4) (n := 512) (by norm_num) f]
  refine Finset.sum_congr rfl fun s _ => Finset.sum_congr rfl fun r _ => congrArg f (Fin.ext ?_)
  simp only; omega

/-- The additions of a support's four row blocks together: the final linear map of the support's convolutions. -/
theorem points_eq (n : Fin 4) (i : Fin 3) (o : Fin 32) (l : Fin 12) (p : Fin 384)
    (hp : p.val = 12 * o.val + l.val) (w : Fin 2048) :
    ∑ s, d.point n i s p w = ∑ x, (∑ t : Fin 4, ∑ c : Fin 32, d.conv n i t c w l * d.Ws i x (col t c)) * d.Wf o (col i.succ x) := by
  have h1 : ∀ t, ∑ s, d.part n i s t p w = ∑ c, d.A i t o c * d.conv n i t c w l := by
    intro t
    simp only [d.part_eq n i _ t o l p hp w]
    rw [sum_rows fun v => ∑ c, d.A i t o c * (d.P n i t v w * d.X n c v l), Finset.sum_comm]
    simp only [conv, Finset.mul_sum]
  unfold point
  rw [Finset.sum_comm]
  simp only [h1, A, Finset.sum_mul]
  conv_rhs => rw [Finset.sum_comm]
  refine Finset.sum_congr rfl fun t _ => ?_
  conv_rhs => rw [Finset.sum_comm]
  exact Finset.sum_congr rfl fun c _ => Finset.sum_congr rfl fun x _ => by ring

/-- The kernel's result is the reference's. -/
theorem acc_eq (n : Fin 4) (o : Fin 32) (l : Fin 12) (p : Fin 384) (hp : p.val = 12 * o.val + l.val) (w : Fin 2048) :
    d.acc n p w = d.out n o w l := by
  unfold acc
  simp only [d.init_eq n o l p hp w, d.points_eq n _ o l p hp w]
  have hU : ∑ c, d.U0 o c * d.X n c w l = ∑ x, (∑ c, d.X n c w l * d.W0 x c) * d.Wf o (col 0 x) := by
    simp only [U0, Finset.sum_mul]
    rw [Finset.sum_comm]
    exact Finset.sum_congr rfl fun x _ => Finset.sum_congr rfl fun c _ => by ring
  have hb : ∀ (k : Fin 4) (f : Fin 32 → ℝ), ∑ x, f x * d.Wf o (col k x) = ∑ x, d.Wf o (col k x) * f x :=
    fun k f => Finset.sum_congr rfl fun x _ => mul_comm _ _
  simp only [out, head, sup, add_mul, Finset.sum_add_distrib, hU, beta, Fin.sum_univ_three, hb]
  simp only [Fin.succ_zero_eq_one, Fin.succ_one_eq_two, show Fin.succ (2 : Fin 3) = 3 from rfl]
  ring

end Data

end Cert.Proof

end
-- ==== Proof.HostArrays.lean ====
/-
  What the host computes before the kernel's grid: the folded input, the composed linear maps and the composed bias, each
  read at an index as a real number.
-/
module

public import Idealize.ShloMosaic.Lib.Pointwise
public import Idealize.ShloMosaic.Lib.StableHlo.ReadAt
public import proofs.«01_k».proof.Proof.Gen.KernelIdeal.Launch
public import proofs.«01_k».proof.Proof.Spec

@[expose] public section

set_option maxRecDepth 16384

open Idealize.ShloMosaic

namespace Cert.Proof

open Cert.KernelIdeal Cert.KernelIdeal.Gen

noncomputable section

/-- The host operations before the region, in order. -/
abbrev hostLine : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]

/-- The bit that compares two coordinates of a 12 × 12 identity matrix, as a number. -/
theorem eye_at (a b : ℕ) (ha : a < 12) (hb : b < 12) :
    FloatOps.uitofp (F := Ideal) FTy.f32 (IntOp.cmpi CmpIPredicate.eq (IntOp.addi (BitVec.ofNat 32 a) 0#32) (BitVec.ofNat 32 b))
      = (((if a = b then 1 else 0 : ℝ)) : EReal) := by
  have hab : BitVec.ofNat 32 a = BitVec.ofNat 32 b ↔ a = b :=
    ⟨fun h => by simpa [Nat.mod_eq_of_lt, show a < 4294967296 by omega, show b < 4294967296 by omega] using congrArg BitVec.toNat h,
      fun h => h ▸ rfl⟩
  have : IntOp.addi (BitVec.ofNat 32 a) 0#32 = BitVec.ofNat 32 a := BitVec.add_zero _
  rw [this]
  by_cases h : a = b
  · subst h
    have : IntOp.cmpi CmpIPredicate.eq (BitVec.ofNat 32 a) (BitVec.ofNat 32 a) = 1#1 := by simp [IntOp.cmpi]
    rw [this, if_pos rfl]
    show (((1#1 : BitVec 1).toNat : ℝ) : EReal) = _
    norm_num
  · rw [if_neg h]
    have : IntOp.cmpi CmpIPredicate.eq (BitVec.ofNat 32 a) (BitVec.ofNat 32 b) = 0#1 := by
      show BitVec.ofBool (BitVec.ofNat 32 a == BitVec.ofNat 32 b) = 0#1
      rw [beq_eq_false_iff_ne.mpr fun e => h (hab.mp e)]
      rfl
    rw [this]
    show (((0#1 : BitVec 1).toNat : ℝ) : EReal) = _
    norm_num

variable (W : Valuation τ sig (Elt Ideal)) (d : Data)

/-- A valuation's argument arrays hold the numbers. -/
def Holds : Prop :=
  d.Is (W (Proc.devRef .tc main_arg0)) (W (Proc.devRef .tc main_arg1)) (W (Proc.devRef .tc main_arg2))
    (W (Proc.devRef .tc main_arg3)) (W (Proc.devRef .tc main_arg4)) (W (Proc.devRef .tc main_arg5))
    (W (Proc.devRef .tc main_arg6)) (W (Proc.devRef .tc main_arg7)) (W (Proc.devRef .tc main_arg8))
    (W (Proc.devRef .tc main_arg9)) (W (Proc.devRef .tc main_arg10)) (W (Proc.devRef .tc main_arg11))

variable {W d}

/-- The folded input the host lays out for the kernel. -/
theorem xt_at (h : Holds W d) (n : Fin 4) (q : Fin 384) (v : Fin 2048) :
    StableHlo.after hostLine W (Proc.devRef .tc main_v166) (ix3 n q v) = (d.xt n q v : EReal) := by
  after_reads_at
  exact h.h0 _ _ _ _

/-- The folded input with the row of ones below it, as the host lays it out. -/
theorem xt1_at (h : Holds W d) (n : Fin 4) (q : Fin 392) (v : Fin 2048) :
    StableHlo.after hostLine W (Proc.devRef .tc main_v169) (ix3 n q v) = (d.xt1 n q v : EReal) := by
  after_reads_at
  after_reads_at
  unfold Data.xt1
  split_ifs
  · exact h.h0 _ _ _ _
  all_goals first | exact EReal.coe_one.symm | exact EReal.coe_zero.symm | omega

/-- The first matrix's block. -/
theorem kron0_at {p q : Fin 384} {z : (⟨2, ![32, 128]⟩ : Shape).Idx → EReal} {y : (⟨2, ![32, 32]⟩ : Shape).Idx → EReal}
    (hz : ∀ o q, z (ix2 o q) = (d.Wf o q : EReal)) (hy : ∀ o q, y (ix2 o q) = (d.W0 o q : EReal)) {a : Fin 32 → Fin 128}
    (ha : ∀ x, a x = col 0 x) :
    (∑ x : Fin 32, z (ix2 (chan p) (a x)) * y (ix2 x (chan q)))
        * FloatOps.uitofp (F := Ideal) FTy.f32 (IntOp.cmpi CmpIPredicate.eq (IntOp.addi (BitVec.ofNat 32 (p.val % 12)) 0#32)
            (BitVec.ofNat 32 (q.val % 12)))
      = ((d.U0 (chan p) (chan q) * if p.val % 12 = q.val % 12 then 1 else 0 : ℝ) : EReal) := by
  rw [eye_at _ _ (by omega) (by omega)]
  simp only [ha, hy, hz, ← EReal.coe_mul, coe_sum]
  rfl

/-- The composed bias. -/
theorem beta_at {z : (⟨2, ![32, 128]⟩ : Shape).Idx → EReal} {y y0 y1 y2 y3 : (⟨1, ![32]⟩ : Shape).Idx → EReal}
    (hz : ∀ o q, z (ix2 o q) = (d.Wf o q : EReal)) (hy : ∀ o, y (ix1 o) = (d.bf o : EReal))
    (hy0 : ∀ o, y0 (ix1 o) = (d.b0 o : EReal)) (hy1 : ∀ o, y1 (ix1 o) = (d.bs 0 o : EReal))
    (hy2 : ∀ o, y2 (ix1 o) = (d.bs 1 o : EReal)) (hy3 : ∀ o, y3 (ix1 o) = (d.bs 2 o : EReal)) (o : Fin 32)
    {a0 a1 a2 a3 : Fin 32 → Fin 128} (h0 : ∀ x, a0 x = col 0 x) (h1 : ∀ x, a1 x = col 1 x) (h2 : ∀ x, a2 x = col 2 x)
    (h3 : ∀ x, a3 x = col 3 x) :
    y (ix1 o) + ∑ x : Fin 32, z (ix2 o (a0 x)) * y0 (ix1 x) + ∑ x : Fin 32, z (ix2 o (a1 x)) * y1 (ix1 x)
        + ∑ x : Fin 32, z (ix2 o (a2 x)) * y2 (ix1 x) + ∑ x : Fin 32, z (ix2 o (a3 x)) * y3 (ix1 x)
      = (d.beta o : EReal) := by
  simp only [h0, h1, h2, h3, hz, hy, hy0, hy1, hy2, hy3, ← EReal.coe_mul, coe_sum, ← EReal.coe_add]
  rfl

/-- The first matrix with its bias column, as the host lays it out. -/
theorem U0L_at (h : Holds W d) (p : Fin 384) (q : Fin 392) :
    StableHlo.after hostLine W (Proc.devRef .tc main_v164) (ix2 p q) = (d.U0L p q : EReal) := by
  after_reads_at
  after_reads_at
  unfold Data.U0L
  split_ifs
  all_goals first
    | omega
    | exact EReal.coe_zero.symm
    | exact kron0_at (q := ⟨q.val, by omega⟩) h.h10 h.h2 (fun x => Fin.ext (by simp))
    | exact beta_at h.h10 h.h11 h.h3 h.h5 h.h7 h.h9 _ (fun x => Fin.ext (by simp)) (fun x => Fin.ext (by simp))
        (fun x => Fin.ext (by simp)) (fun x => Fin.ext (by simp))

/-- One entry of a block of weights composed with an identity matrix. -/
theorem kron_at {i : Fin 3} {t : Fin 4} {p q : Fin 384} {z y : (⟨2, ![32, 128]⟩ : Shape).Idx → EReal}
    (hz : ∀ o q, z (ix2 o q) = (d.Wf o q : EReal)) (hy : ∀ o q, y (ix2 o q) = (d.Ws i o q : EReal)) {a b : Fin 32 → Fin 128}
    (ha : ∀ x, a x = col i.succ x) (hb : ∀ x, b x = col t (chan q)) :
    (∑ x : Fin 32, z (ix2 (chan p) (a x)) * y (ix2 x (b x)))
        * FloatOps.uitofp (F := Ideal) FTy.f32 (IntOp.cmpi CmpIPredicate.eq (IntOp.addi (BitVec.ofNat 32 (p.val % 12)) 0#32)
            (BitVec.ofNat 32 (q.val % 12)))
      = (d.Us i t p q : EReal) := by
  rw [eye_at _ _ (by omega) (by omega)]
  simp only [ha, hb, hy, hz, ← EReal.coe_mul, coe_sum]
  rfl

set_option maxHeartbeats 1000000 in
/-- The four blocks of the first support, stacked. -/
theorem stack0_at (h : Holds W d) (t : Fin 4) (p q : Fin 384) :
    StableHlo.after hostLine W (Proc.devRef .tc main_v58) (ix3 t p q) = (d.Us 0 t p q : EReal) := by
  after_reads_at
  obtain ht | ht | ht | ht : t.val = 0 ∨ t.val = 1 ∨ t.val = 2 ∨ t.val = 3 := by omega
  · rw [dif_pos (by omega)]
    after_reads_at
    refine kron_at (t := t) (p := p) (q := q) h.h10 h.h4 (fun x => Fin.ext ?_) (fun x => Fin.ext ?_) <;> simp only [ht, Fin.val_succ] <;> omega
  · rw [dif_neg (by omega), dif_pos (by omega)]
    after_reads_at
    refine kron_at (t := t) (p := p) (q := q) h.h10 h.h4 (fun x => Fin.ext ?_) (fun x => Fin.ext ?_) <;> simp only [ht, Fin.val_succ] <;> omega
  · rw [dif_neg (by omega), dif_neg (by omega), dif_pos (by omega)]
    after_reads_at
    refine kron_at (t := t) (p := p) (q := q) h.h10 h.h4 (fun x => Fin.ext ?_) (fun x => Fin.ext ?_) <;> simp only [ht, Fin.val_succ] <;> omega
  · rw [dif_neg (by omega), dif_neg (by omega), dif_neg (by omega)]
    after_reads_at
    refine kron_at (t := t) (p := p) (q := q) h.h10 h.h4 (fun x => Fin.ext ?_) (fun x => Fin.ext ?_) <;> simp only [ht, Fin.val_succ] <;> omega

set_option maxHeartbeats 1000000 in
/-- The four blocks of the second support, stacked. -/
theorem stack1_at (h : Holds W d) (t : Fin 4) (p q : Fin 384) :
    StableHlo.after hostLine W (Proc.devRef .tc main_v103) (ix3 t p q) = (d.Us 1 t p q : EReal) := by
  after_reads_at
  obtain ht | ht | ht | ht : t.val = 0 ∨ t.val = 1 ∨ t.val = 2 ∨ t.val = 3 := by omega
  · rw [dif_pos (by omega)]
    after_reads_at
    refine kron_at (t := t) (p := p) (q := q) h.h10 h.h6 (fun x => Fin.ext ?_) (fun x => Fin.ext ?_) <;> simp only [ht, Fin.val_succ] <;> omega
  · rw [dif_neg (by omega), dif_pos (by omega)]
    after_reads_at
    refine kron_at (t := t) (p := p) (q := q) h.h10 h.h6 (fun x => Fin.ext ?_) (fun x => Fin.ext ?_) <;> simp only [ht, Fin.val_succ] <;> omega
  · rw [dif_neg (by omega), dif_neg (by omega), dif_pos (by omega)]
    after_reads_at
    refine kron_at (t := t) (p := p) (q := q) h.h10 h.h6 (fun x => Fin.ext ?_) (fun x => Fin.ext ?_) <;> simp only [ht, Fin.val_succ] <;> omega
  · rw [dif_neg (by omega), dif_neg (by omega), dif_neg (by omega)]
    after_reads_at
    refine kron_at (t := t) (p := p) (q := q) h.h10 h.h6 (fun x => Fin.ext ?_) (fun x => Fin.ext ?_) <;> simp only [ht, Fin.val_succ] <;> omega

set_option maxHeartbeats 1000000 in
/-- The four blocks of the third support, stacked. -/
theorem stack2_at (h : Holds W d) (t : Fin 4) (p q : Fin 384) :
    StableHlo.after hostLine W (Proc.devRef .tc main_v148) (ix3 t p q) = (d.Us 2 t p q : EReal) := by
  after_reads_at
  obtain ht | ht | ht | ht : t.val = 0 ∨ t.val = 1 ∨ t.val = 2 ∨ t.val = 3 := by omega
  · rw [dif_pos (by omega)]
    after_reads_at
    refine kron_at (t := t) (p := p) (q := q) h.h10 h.h8 (fun x => Fin.ext ?_) (fun x => Fin.ext ?_) <;> simp only [ht, Fin.val_succ] <;> omega
  · rw [dif_neg (by omega), dif_pos (by omega)]
    after_reads_at
    refine kron_at (t := t) (p := p) (q := q) h.h10 h.h8 (fun x => Fin.ext ?_) (fun x => Fin.ext ?_) <;> simp only [ht, Fin.val_succ] <;> omega
  · rw [dif_neg (by omega), dif_neg (by omega), dif_pos (by omega)]
    after_reads_at
    refine kron_at (t := t) (p := p) (q := q) h.h10 h.h8 (fun x => Fin.ext ?_) (fun x => Fin.ext ?_) <;> simp only [ht, Fin.val_succ] <;> omega
  · rw [dif_neg (by omega), dif_neg (by omega), dif_neg (by omega)]
    after_reads_at
    refine kron_at (t := t) (p := p) (q := q) h.h10 h.h8 (fun x => Fin.ext ?_) (fun x => Fin.ext ?_) <;> simp only [ht, Fin.val_succ] <;> omega

set_option maxHeartbeats 1000000 in
/-- The three supports' stacks, stacked. -/
theorem Us_at (h : Holds W d) (i : Fin 3) (t : Fin 4) (p q : Fin 384) :
    StableHlo.after hostLine W (Proc.devRef .tc main_v152) (ix4 i t p q) = (d.Us i t p q : EReal) := by
  obtain hi | hi | hi : i = 0 ∨ i = 1 ∨ i = 2 := by omega
  · subst hi
    rw [← stack0_at h t p q]
    after_reads_at
    after_reads_at
    after_reads_at
  · subst hi
    rw [← stack1_at h t p q]
    after_reads_at
    after_reads_at
    after_reads_at
  · subst hi
    rw [← stack2_at h t p q]
    after_reads_at
    after_reads_at
    after_reads_at

end

end Cert.Proof
-- ==== Proof.Rounds.lean ====
/-
  The kernel's forty rounds on one block of 512 rows: each round takes every row's greatest entry and removes it.
-/
module

public import Idealize.ShloMosaic.Lib.Pointwise
public import proofs.«01_k».proof.Proof.Gen.KernelIdeal.Skeleton
public import proofs.«01_k».proof.Proof.Row

@[expose] public section

set_option maxRecDepth 16384

noncomputable section

namespace Cert.Proof

open Idealize.ShloMosaic Cert.KernelIdeal Cert.KernelIdeal.Gen

/-- Each row's greatest entry, as a column. -/
def rowMax (x : FVec Ideal S512x2048 .f32) : FVec Ideal S512x1 .f32 :=
  shapeCast S512x1 (multiReduction .maximumf [1] S512 x 0xFF800000#32 reduces_S512x2048_S512 (.inl rfl) rfl) shapeCasts_S512_S512x1

/-- Which entries are at least their row's greatest. -/
def atMax (x : FVec Ideal S512x2048 .f32) : IVec S512x2048 1 :=
  cmpf .oge x (broadcastTo S512x2048 (rowMax x) broadcasts_S512x1_S512x2048)

/-- The block with the chosen entries removed. -/
def drop (c : IVec S512x2048 1) (x : FVec Ideal S512x2048 .f32) : FVec Ideal S512x2048 .f32 :=
  select c (broadcast S512x2048 (Named.named κ "removed" 0xFF61B1E6#32)) x

/-- One round. -/
def step (x : FVec Ideal S512x2048 .f32) : FVec Ideal S512x2048 .f32 := drop (atMax x) x

/-- This part of the body is the first five rounds. -/
theorem pay4_eq (v0 : FVec Ideal S1x1x512x2048 .f32) : k0_pay4 v0 = step (step (step (step (step (k0_pay2 v0))))) := rfl
/-- This part of the body is where the sixth round finds the greatest entries. -/
theorem pay5_eq (v0 : FVec Ideal S1x1x512x2048 .f32) : k0_pay5 (F := Ideal) v0 = atMax (k0_pay4 v0) := rfl
/-- This part of the body is the end of the sixth round and three more. -/
theorem pay6_eq (x : FVec Ideal S512x2048 .f32) (c : IVec S512x2048 1) : k0_pay6 x c = step (step (step (drop c x))) := rfl
/-- This part of the body is the greatest entries after nine rounds. -/
theorem pay7_eq (x : FVec Ideal S512x2048 .f32) (c : IVec S512x2048 1) : k0_pay7 x c = rowMax (k0_pay6 x c) := rfl
/-- This part of the body is four more rounds. -/
theorem pay8_eq (x : FVec Ideal S512x2048 .f32) (c : IVec S512x2048 1) :
    k0_pay8 x c = step (step (step (step (k0_pay6 x c)))) := rfl
/-- This part of the body is six more rounds. -/
theorem pay9_eq (x : FVec Ideal S512x2048 .f32) : k0_pay9 x = step (step (step (step (step (step x))))) := rfl
/-- This part of the body is the greatest entries after six more rounds. -/
theorem pay10_eq (x : FVec Ideal S512x2048 .f32) : k0_pay10 x = rowMax (k0_pay9 x) := rfl
/-- This part of the body is one more round. -/
theorem pay11_eq (x : FVec Ideal S512x2048 .f32) : k0_pay11 x = step (k0_pay9 x) := rfl
/-- This part of the body is where the next round finds the greatest entries. -/
theorem pay12_eq (x : FVec Ideal S512x2048 .f32) : k0_pay12 x = atMax (k0_pay11 x) := rfl
/-- This part of the body is the end of that round and seven more. -/
theorem pay13_eq (x : FVec Ideal S512x2048 .f32) (c : IVec S512x2048 1) :
    k0_pay13 x c = step (step (step (step (step (step (step (drop c x))))))) := rfl
/-- This part of the body is seven more rounds. -/
theorem pay14_eq (x : FVec Ideal S512x2048 .f32) : k0_pay14 x = step (step (step (step (step (step (step x)))))) := rfl
/-- This part of the body is where the next round finds the greatest entries. -/
theorem pay15_eq (x : FVec Ideal S512x2048 .f32) : k0_pay15 x = atMax (k0_pay14 x) := rfl
/-- This part of the body is the end of that round, three more, and the greatest entries then. -/
theorem pay16_eq (x : FVec Ideal S512x2048 .f32) (c : IVec S512x2048 1) : k0_pay16 x c = rowMax (step (step (step (drop c x)))) := rfl

/-- The block holds, in each row, the row after `k` rounds. -/
def IsCur (row : Fin 512 → Fin 2048 → ℝ) (k : ℕ) (x : FVec Ideal S512x2048 .f32) : Prop :=
  ∀ r w, x (ix2 r w) = cur (row r) k w

variable {row : Fin 512 → Fin 2048 → ℝ} {k : ℕ} {x : FVec Ideal S512x2048 .f32}

/-- The named constant of a removed entry is `-∞`. -/
theorem removed_eq : (Named.named (F := Ideal) (φ := .f32) κ "removed" 0xFF61B1E6#32 : EReal) = ⊥ :=
  IdealRules.named_const.ideal_named_scalar _ _ _ _ rfl

/-- The bit pattern of negative infinity denotes `-∞`. -/
theorem ofBits_ninf : Ideal.ofBits FTy.f32 0xFF800000#32 = ⊥ := by simp [Ideal.ofBits, Ideal.ieee]

/-- The greatest entry of each row after `k` rounds is the row's `k`-th greatest. -/
theorem rowMax_at (h : IsCur row k x) (r : Fin 512) (z : Fin 1) : rowMax x (ix2 r z) = (nth (row r) k : EReal) := by
  pointwise [rowMax]
  rw [ofBits_ninf]
  simp only [h r]
  exact fold_cur k

/-- One round turns the rows after `k` rounds into the rows after `k + 1`. -/
theorem step_isCur (hs : ∀ r, Strict (row r)) (hk : k < 40) (h : IsCur row k x) : IsCur row (k + 1) (step x) := by
  intro r w
  refine Eq.trans ?_ (step_cur (hs r) hk w)
  rw [← h r w, ← rowMax_at h r 0]
  pointwise [step, drop, atMax]
  rw [removed_eq]

end Cert.Proof

end
-- ==== Proof.Body.lean ====
/-
  One grid point of the kernel over the extended reals: the masked and normalised rows of its block, the product it adds
  to the accumulator, and what the first grid point of a batch entry starts from.
-/
module

public import proofs.«01_k».proof.Proof.Rounds
public import proofs.«01_k».proof.Proof.Spec

@[expose] public section

set_option maxRecDepth 16384

noncomputable section

namespace Cert.Proof

open Idealize.ShloMosaic Cert.KernelIdeal Cert.KernelIdeal.Gen

variable {row : Fin 512 → Fin 2048 → ℝ}

/-- The block of a support holds these rows. -/
def IsRows (row : Fin 512 → Fin 2048 → ℝ) (v0 : Vec Ideal S1x1x512x2048 .f32) : Prop :=
  ∀ r w, v0 (ix4 0 0 r w) = (row r w : EReal)

variable {v0 : Vec Ideal S1x1x512x2048 .f32}

/-- The block of rows the kernel loads. -/
theorem pay2_at (h : IsRows row v0) (r : Fin 512) (w : Fin 2048) : k0_pay2 (F := Ideal) v0 (ix2 r w) = (row r w : EReal) := by
  pointwise [k0_pay2]
  exact h r w

/-- Before the first round nothing is removed. -/
theorem pay2_isCur (h : IsRows row v0) : IsCur row 0 (k0_pay2 (F := Ideal) v0) := fun r w =>
  (pay2_at h r w).trans (cur_zero w).symm

/-- The unnormalised weights without a mask: each entry's exponential, relative to its row's greatest. -/
theorem pay3_at (h : IsRows row v0) (r : Fin 512) (w : Fin 2048) :
    k0_pay3 (F := Ideal) v0 (ix2 r w) = (Real.exp (row r w - nth (row r) 0) : EReal) := by
  have hm : rowMax (k0_pay2 (F := Ideal) v0) (ix2 r 0) = (nth (row r) 0 : EReal) := rowMax_at (pay2_isCur h) r 0
  have e : k0_pay3 (F := Ideal) v0 (ix2 r w)
      = Ideal.exp (k0_pay2 (F := Ideal) v0 (ix2 r w) - rowMax (k0_pay2 (F := Ideal) v0) (ix2 r 0)) := by
    pointwise [k0_pay3, rowMax]
  rw [e, hm, pay2_at h, ← EReal.coe_sub, Ideal.exp_coe]

/-- The block after twenty rounds. -/
def at20 (v0 : Vec Ideal S1x1x512x2048 .f32) : FVec Ideal S512x2048 .f32 :=
  k0_pay8 (k0_pay4 (F := Ideal) v0) (k0_pay5 (F := Ideal) v0)
/-- The tenth greatest entry of each row. -/
def thr0 (v0 : Vec Ideal S1x1x512x2048 .f32) : FVec Ideal S512x1 .f32 :=
  k0_pay7 (k0_pay4 (F := Ideal) v0) (k0_pay5 (F := Ideal) v0)
/-- The twentieth greatest entry of each row. -/
def thr1 (v0 : Vec Ideal S1x1x512x2048 .f32) : FVec Ideal S512x1 .f32 := k0_pay10 (at20 v0)
/-- The block after the rounds before the last few. -/
def at35 (v0 : Vec Ideal S1x1x512x2048 .f32) : FVec Ideal S512x2048 .f32 :=
  k0_pay13 (k0_pay11 (at20 v0)) (k0_pay12 (at20 v0))
/-- The fortieth greatest entry of each row. -/
def thr2 (v0 : Vec Ideal S1x1x512x2048 .f32) : FVec Ideal S512x1 .f32 :=
  k0_pay16 (k0_pay14 (at35 v0)) (k0_pay15 (at35 v0))

section
variable (hs : ∀ r, Strict (row r)) (h : IsRows row v0)
include hs h

/-- The block after five rounds. -/
theorem isCur5 : IsCur row 5 (k0_pay4 (F := Ideal) v0) := by
  rw [pay4_eq]
  exact step_isCur hs (by decide) <| step_isCur hs (by decide) <| step_isCur hs (by decide) <| step_isCur hs (by decide) <|
    step_isCur hs (by decide) <| pay2_isCur h

/-- The block after nine rounds. -/
theorem isCur9 : IsCur row 9 (k0_pay6 (k0_pay4 (F := Ideal) v0) (k0_pay5 (F := Ideal) v0)) := by
  rw [pay6_eq, pay5_eq]
  exact step_isCur hs (by decide) <| step_isCur hs (by decide) <| step_isCur hs (by decide) <| step_isCur hs (by decide) <|
    isCur5 hs h

/-- The first threshold is each row's tenth greatest entry. -/
theorem thr0_at (r : Fin 512) (z : Fin 1) : thr0 v0 (ix2 r z) = (nth (row r) 9 : EReal) := by
  unfold thr0
  rw [pay7_eq]
  exact rowMax_at (isCur9 hs h) r z

/-- The block after thirteen rounds. -/
theorem isCur13 : IsCur row 13 (at20 v0) := by
  unfold at20
  rw [pay8_eq]
  exact step_isCur hs (by decide) <| step_isCur hs (by decide) <| step_isCur hs (by decide) <| step_isCur hs (by decide) <|
    isCur9 hs h

/-- The block after nineteen rounds. -/
theorem isCur19 : IsCur row 19 (k0_pay9 (at20 v0)) := by
  rw [pay9_eq]
  exact step_isCur hs (by decide) <| step_isCur hs (by decide) <| step_isCur hs (by decide) <| step_isCur hs (by decide) <|
    step_isCur hs (by decide) <| step_isCur hs (by decide) <| isCur13 hs h

/-- The second threshold is each row's twentieth greatest entry. -/
theorem thr1_at (r : Fin 512) (z : Fin 1) : thr1 v0 (ix2 r z) = (nth (row r) 19 : EReal) := by
  unfold thr1
  rw [pay10_eq]
  exact rowMax_at (isCur19 hs h) r z

/-- The block after twenty-eight rounds. -/
theorem isCur28 : IsCur row 28 (at35 v0) := by
  unfold at35
  rw [pay13_eq, pay12_eq, pay11_eq]
  exact step_isCur hs (by decide) <| step_isCur hs (by decide) <| step_isCur hs (by decide) <| step_isCur hs (by decide) <|
    step_isCur hs (by decide) <| step_isCur hs (by decide) <| step_isCur hs (by decide) <| step_isCur hs (by decide) <|
    step_isCur hs (by decide) <| isCur19 hs h

/-- The block after thirty-five rounds. -/
theorem isCur35 : IsCur row 35 (k0_pay14 (at35 v0)) := by
  rw [pay14_eq]
  exact step_isCur hs (by decide) <| step_isCur hs (by decide) <| step_isCur hs (by decide) <| step_isCur hs (by decide) <|
    step_isCur hs (by decide) <| step_isCur hs (by decide) <| step_isCur hs (by decide) <| isCur28 hs h

/-- The third threshold is each row's fortieth greatest entry. -/
theorem thr2_at (r : Fin 512) (z : Fin 1) : thr2 v0 (ix2 r z) = (nth (row r) 39 : EReal) := by
  unfold thr2
  rw [pay16_eq, pay15_eq]
  exact rowMax_at (step_isCur hs (by decide) <| step_isCur hs (by decide) <| step_isCur hs (by decide) <|
    step_isCur hs (by decide) <| isCur35 hs h) r z

/-- An entry's weight under a mask: its exponential if it is at least the mask's threshold, else zero. -/
theorem gate_at (t : Fin 4) {θ : EReal} (r : Fin 512) (hθ : θ = (nth (row r) (kept t - 1) : EReal)) (w : Fin 2048) :
    (if θ ≤ k0_pay2 (F := Ideal) v0 (ix2 r w) then k0_pay3 (F := Ideal) v0 (ix2 r w) else 0) = (wt (row r) t w : EReal) := by
  rw [hθ, pay2_at h, pay3_at h]
  unfold wt
  by_cases hc : nth (row r) (kept t - 1) ≤ row r w
  · rw [if_pos (EReal.coe_le_coe_iff.mpr hc), if_pos hc]
  · rw [if_neg (fun hh => hc (EReal.coe_le_coe_iff.mp hh)), if_neg hc]; rfl

omit hs in
/-- Without a mask the weights are the exponentials. -/
theorem ungated_at (r : Fin 512) (w : Fin 2048) : k0_pay3 (F := Ideal) v0 (ix2 r w) = (wt (row r) 3 w : EReal) := by
  rw [pay3_at h, wt_three]

end

/-- What a mask's weighted product is, on one block of rows. -/
def mass (row : Fin 512 → Fin 2048 → ℝ) (u : Fin 384 → Fin 384 → ℝ) (xs : Fin 384 → Fin 512 → ℝ) (t : Fin 4) (p : Fin 384)
    (w : Fin 2048) : ℝ :=
  ∑ r : Fin 512, ((∑ q, u p q * xs q r) * (1 / tot (row r) t)) * wt (row r) t w

/-- The printed product of one mask is `mass`, its weights and their sums being the mask's. -/
theorem mass_at {u : Fin 384 → Fin 384 → EReal} {xs : Fin 384 → Fin 512 → EReal} {s : Fin 512 → EReal}
    {g : Fin 512 → Fin 2048 → EReal} {u' : Fin 384 → Fin 384 → ℝ} {xs' : Fin 384 → Fin 512 → ℝ} (t : Fin 4)
    (hu : ∀ p q, u p q = (u' p q : EReal)) (hx : ∀ q r, xs q r = (xs' q r : EReal))
    (hss : ∀ r, s r = (tot (row r) t : EReal)) (hg : ∀ r w, g r w = (wt (row r) t w : EReal)) (p : Fin 384) (w : Fin 2048) :
    ∑ r, (∑ q, u p q * xs q r) * Ideal.div 1 (s r) * g r w = (mass row u' xs' t p w : EReal) := by
  unfold mass
  rw [← coe_sum]
  refine Finset.sum_congr rfl fun r _ => ?_
  simp only [hu, hx, hg, hss, ← EReal.coe_mul, coe_sum]
  rw [Ideal.div_coe (tot_ne t), one_mul, ← EReal.coe_mul, ← EReal.coe_mul]

/-- What a grid point leaves, from what the masks 0 and 1 left: the products of masks 2 and 3 are added. -/
theorem pay1_at (v6 v250 v290 v294 v296 v298 v312) (p : Fin 384) (w : Fin 2048) :
    k0_pay1 (F := Ideal) v6 v250 v290 v294 v296 v298 v312 (ix3 0 p w)
      = v290 (ix2 p w)
        + ∑ x, (∑ q, v298 (ix2 p q) * v250 (ix2 q x)) * Ideal.div 1 (v296 (ix2 x 0)) * v294 (ix2 x w)
        + ∑ x, (∑ q, v312 (ix4 0 0 p q) * v250 (ix2 q x)) * Ideal.div 1 (∑ y, v6 (ix2 x y)) * v6 (ix2 x w) := by
  pointwise [k0_pay1]

/-- What the masks 0 and 1 add to the accumulator. -/
theorem pay22_at (v1 v6 v122 v250 v252 v256 v258 v259 v278) (p : Fin 384) (w : Fin 2048) :
    k0_pay22 (F := Ideal) v1 v6 v122 v250 v252 v256 v258 v259 v278 (ix2 p w)
      = v252 (ix2 p w)
        + ∑ x, (∑ q, v259 (ix4 0 0 p q) * v250 (ix2 q x)) * Ideal.div 1 (v258 (ix2 x 0)) * v256 (ix2 x w)
        + ∑ x, (∑ q, v278 (ix4 0 0 p q) * v250 (ix2 q x))
            * Ideal.div 1 (∑ y, if v122 (ix2 x 0) ≤ v1 (ix2 x y) then v6 (ix2 x y) else 0)
            * if v122 (ix2 x 0) ≤ v1 (ix2 x w) then v6 (ix2 x w) else 0 := by
  pointwise [k0_pay22]

/-- The block the grid point leaves, from its blocks and the accumulator's contents. -/
def left (v0 : Vec Ideal S1x1x512x2048 .f32) (v248 : Vec Ideal S1x384x512 .f32) (w0 w1 w2 w3 : Vec Ideal S1x1x384x384 .f32)
    (v251 : Vec Ideal S1x384x2048 .f32) : FVec Ideal S1x384x2048 .f32 :=
  k0_pay1 (k0_pay3 (F := Ideal) v0) (k0_pay18 (F := Ideal) v248)
    (k0_pay22 (F := Ideal) (k0_pay2 (F := Ideal) v0) (k0_pay3 (F := Ideal) v0) (thr1 v0) (k0_pay18 (F := Ideal) v248) (k0_pay19 (F := Ideal) v251)
      (k0_pay20 (k0_pay2 (F := Ideal) v0) (k0_pay3 (F := Ideal) v0) (thr0 v0))
      (k0_pay21 (k0_pay2 (F := Ideal) v0) (k0_pay3 (F := Ideal) v0) (thr0 v0)) w0 w1)
    (k0_pay23 (k0_pay2 (F := Ideal) v0) (k0_pay3 (F := Ideal) v0) (thr2 v0))
    (k0_pay24 (k0_pay2 (F := Ideal) v0) (k0_pay3 (F := Ideal) v0) (thr2 v0)) (k0_pay25 (F := Ideal) w2) w3

/-- A grid point adds, to what the accumulator held, the four masks' products. -/
theorem left_at (hs : ∀ r, Strict (row r)) (h : IsRows row v0) {v248 : Vec Ideal S1x384x512 .f32}
    {w0 w1 w2 w3 : Vec Ideal S1x1x384x384 .f32} {v251 : Vec Ideal S1x384x2048 .f32} {U : Fin 4 → Fin 384 → Fin 384 → ℝ}
    {xs : Fin 384 → Fin 512 → ℝ} (hx : ∀ q r, v248 (ix3 0 q r) = (xs q r : EReal))
    (h0 : ∀ p q, w0 (ix4 0 0 p q) = (U 0 p q : EReal)) (h1 : ∀ p q, w1 (ix4 0 0 p q) = (U 1 p q : EReal))
    (h2 : ∀ p q, w2 (ix4 0 0 p q) = (U 2 p q : EReal)) (h3 : ∀ p q, w3 (ix4 0 0 p q) = (U 3 p q : EReal))
    (p : Fin 384) (w : Fin 2048) :
    left v0 v248 w0 w1 w2 w3 v251 (ix3 0 p w) = v251 (ix3 0 p w) + ((∑ t, mass row (U t) xs t p w : ℝ) : EReal) := by
  have hx' : ∀ q r, k0_pay18 (F := Ideal) v248 (ix2 q r) = (xs q r : EReal) := fun q r => by
    pointwise [k0_pay18]; exact hx q r
  have h2' : ∀ p q, k0_pay25 (F := Ideal) w2 (ix2 p q) = (U 2 p q : EReal) := fun p q => by
    pointwise [k0_pay25]; exact h2 p q
  have ha : k0_pay19 (F := Ideal) v251 (ix2 p w) = v251 (ix3 0 p w) := by pointwise [k0_pay19]
  have g0 : ∀ r w, k0_pay20 (k0_pay2 (F := Ideal) v0) (k0_pay3 (F := Ideal) v0) (thr0 v0) (ix2 r w) = (wt (row r) 0 w : EReal) :=
    fun r w => by pointwise [k0_pay20]; exact gate_at hs h 0 r (thr0_at hs h r 0) w
  have s0 : ∀ r z, k0_pay21 (k0_pay2 (F := Ideal) v0) (k0_pay3 (F := Ideal) v0) (thr0 v0) (ix2 r z) = (tot (row r) 0 : EReal) :=
    fun r z => by pointwise [k0_pay21]; simp only [g0]; exact coe_sum _ _
  have g2 : ∀ r w, k0_pay23 (k0_pay2 (F := Ideal) v0) (k0_pay3 (F := Ideal) v0) (thr2 v0) (ix2 r w) = (wt (row r) 2 w : EReal) :=
    fun r w => by pointwise [k0_pay23]; exact gate_at hs h 2 r (thr2_at hs h r 0) w
  have s2 : ∀ r z, k0_pay24 (k0_pay2 (F := Ideal) v0) (k0_pay3 (F := Ideal) v0) (thr2 v0) (ix2 r z) = (tot (row r) 2 : EReal) :=
    fun r z => by pointwise [k0_pay24]; simp only [g2]; exact coe_sum _ _
  have g1 : ∀ r w, (if thr1 v0 (ix2 r 0) ≤ k0_pay2 (F := Ideal) v0 (ix2 r w) then k0_pay3 (F := Ideal) v0 (ix2 r w) else 0)
      = (wt (row r) 1 w : EReal) := fun r w => gate_at hs h 1 r (thr1_at hs h r 0) w
  have s1 : ∀ r, ∑ w, (if thr1 v0 (ix2 r 0) ≤ k0_pay2 (F := Ideal) v0 (ix2 r w) then k0_pay3 (F := Ideal) v0 (ix2 r w) else 0)
      = (tot (row r) 1 : EReal) := fun r => by simp only [g1]; exact coe_sum _ _
  have g3 := fun r w => ungated_at h r w
  have s3 : ∀ r, ∑ w, k0_pay3 (F := Ideal) v0 (ix2 r w) = (tot (row r) 3 : EReal) := fun r => by simp only [g3]; exact coe_sum _ _
  unfold left
  rw [pay1_at, pay22_at, ha, Fin.sum_univ_four, EReal.coe_add, EReal.coe_add, EReal.coe_add, ← mass_at 0 h0 hx' (fun r => s0 r 0) g0 p w,
    ← mass_at 1 h1 hx' s1 g1 p w, ← mass_at 2 h2' hx' (fun r => s2 r 0) g2 p w, ← mass_at 3 h3 hx' s3 g3 p w]
  simp only [add_assoc]

/-- What the first grid point of a batch entry starts from. -/
theorem start_at {v328 : Vec Ideal S384x392 .f32} {v330 : Vec Ideal S1x392x2048 .f32} {a : Fin 384 → Fin 392 → ℝ}
    {b : Fin 392 → Fin 2048 → ℝ} (ha : ∀ p q, v328 (ix2 p q) = (a p q : EReal)) (hb : ∀ q w, v330 (ix3 0 q w) = (b q w : EReal))
    (p : Fin 384) (w : Fin 2048) :
    k0_pay17 (F := Ideal) v328 v330 (ix3 0 p w) = ((∑ q, a p q * b q w : ℝ) : EReal) := by
  pointwise [k0_pay17]
  simp only [ha, hb, ← EReal.coe_mul, coe_sum]

end Cert.Proof

end
-- ==== Proof.Point.lean ====
/-
  What one grid point leaves in the accumulator's buffer: at the first grid point of a batch entry the four masks' products
  over the starting product, at every other over what the grid point before left.
-/
module

public import proofs.«01_k».proof.Proof.Gen.KernelIdeal.Frame
public import Idealize.ShloMosaic.Lib.Pipeline.ValueKit.Tiles
public import proofs.«01_k».proof.Proof.Body

@[expose] public section

set_option maxRecDepth 16384

noncomputable section

namespace Cert.Proof

open Idealize.ShloMosaic Idealize.ShloMosaic.TcCoe Idealize.ShloMosaic.Tactic Idealize.SL Idealize.SL.RA Idealize.SL.BI
open Idealize.SL.Sem Idealize.ShloMosaic.Pipeline Cert.KernelIdeal Cert.KernelIdeal.Gen

/-- A zero offset of two axes. -/
theorem hz2 : (![0, 0] : Fin 2 → Nat) = fun _ => 0 := funext fun a => by fin_cases a <;> rfl
/-- A zero offset of three axes. -/
theorem hz3 : (![0, 0, 0] : Fin 3 → Nat) = fun _ => 0 := funext fun a => by fin_cases a <;> rfl
/-- A zero offset of four axes. -/
theorem hz4 : (![0, 0, 0, 0] : Fin 4 → Nat) = fun _ => 0 := funext fun a => by fin_cases a <;> rfl

section
variable (c : Dev nD) (i : grid0.Coords) (arg3 : Memref sig .tc .vmem S1x1x512x2048 .f32) (harg3 : arg3.IsWhole)
  (arg4 : Memref sig .tc .vmem S1x392x2048 .f32) (harg4 : arg4.IsWhole) (arg5 : Memref sig .tc .vmem S1x384x512 .f32)
  (harg5 : arg5.IsWhole) (arg6 : Memref sig .tc .vmem S1x4x384x384 .f32) (harg6 : arg6.IsWhole)
  (arg7 : Memref sig .tc .vmem S384x392 .f32) (harg7 : arg7.IsWhole) (arg8 : Memref sig .tc .vmem S1x384x2048 .f32)
  (harg8 : arg8.IsWhole) (x0 : Vec Ideal S1x1x512x2048 .f32) (x1 : Vec Ideal S1x392x2048 .f32)
  (x2 : Vec Ideal S1x384x512 .f32) (x3 : Vec Ideal S1x4x384x384 .f32) (x4 : Vec Ideal S384x392 .f32)
  (xo5 : Vec Ideal S1x384x2048 .f32)

/-- The matrix of mask 0, as the kernel loads it from the support's four. -/
def slab0 (x : Vec Ideal S1x4x384x384 .f32) : Vec Ideal S1x1x384x384 .f32 :=
  View.ld x (Rect.unit (s := S1x4x384x384) ![0, 0, 0, 0] S1x1x384x384.size inb_S1x4x384x384_S1x1x384x384_0_0_0_0)
/-- The matrix of mask 1. -/
def slab1 (x : Vec Ideal S1x4x384x384 .f32) : Vec Ideal S1x1x384x384 .f32 :=
  View.ld x (Rect.unit (s := S1x4x384x384) ![0, 1, 0, 0] S1x1x384x384.size inb_S1x4x384x384_S1x1x384x384_0_1_0_0)
/-- The matrix of mask 2. -/
def slab2 (x : Vec Ideal S1x4x384x384 .f32) : Vec Ideal S1x1x384x384 .f32 :=
  View.ld x (Rect.unit (s := S1x4x384x384) ![0, 2, 0, 0] S1x1x384x384.size inb_S1x4x384x384_S1x1x384x384_0_2_0_0)
/-- The matrix of mask 3. -/
def slab3 (x : Vec Ideal S1x4x384x384 .f32) : Vec Ideal S1x1x384x384 .f32 :=
  View.ld x (Rect.unit (s := S1x4x384x384) ![0, 3, 0, 0] S1x1x384x384.size inb_S1x4x384x384_S1x1x384x384_0_3_0_0)

/-- The four loaded matrices, read at an index of the support's four. -/
theorem slab_at (x : Vec Ideal S1x4x384x384 .f32) (p q : Fin 384) :
    slab0 x (ix4 0 0 p q) = x (ix4 0 0 p q) ∧ slab1 x (ix4 0 0 p q) = x (ix4 0 1 p q)
      ∧ slab2 x (ix4 0 0 p q) = x (ix4 0 2 p q) ∧ slab3 x (ix4 0 0 p q) = x (ix4 0 3 p q) := by
  refine ⟨?_, ?_, ?_, ?_⟩ <;> [unfold slab0; unfold slab1; unfold slab2; unfold slab3] <;>
    refine View.ld_unit_apply_of _ _ _ _ _ _ fun a => ?_ <;> fin_cases a <;> simp

/-- At every grid point but the first of a batch entry: the masks' products over what the buffer held. -/
theorem out_B (hc0 : ¬cond0_0 i) :
    out0_B_5 c i arg3 harg3 arg4 harg4 arg5 harg5 arg6 harg6 arg7 harg7 arg8 harg8 hc0 x0 x1 x2 x3 x4 xo5
      = left x0 x2 (slab0 x3) (slab1 x3) (slab2 x3) (slab3 x3) xo5 := by
  unfold out0_B_5
  rw [View.read_writes_eq_canon _ _ _ (cover0_B_5 c i arg3 harg3 arg4 harg4 arg5 harg5 arg6 harg6 arg7 harg7 arg8 harg8 hc0 x0 x1 x2 x3 x4 xo5)]
  unfold kernelRun0_B
  dsimp only
  sl_unfold_words
  rw [View.canon_unit_zero hz3]
  simp only [View.readAt_eq_ld, harg3.read_unread, harg4.read_unread, harg5.read_unread, harg6.read_unread,
    harg7.read_unread, harg8.read_unread, View.ld_unit_zero (S := S1x1x512x2048) hz4, View.ld_unit_zero (S := S1x384x512) hz3,
    View.ld_unit_zero (S := S1x384x2048) hz3]
  rfl

/-- At the first grid point of a batch entry: the masks' products over the starting product. -/
theorem out_A (hc0 : cond0_0 i) :
    out0_A_5 c i arg3 harg3 arg4 harg4 arg5 harg5 arg6 harg6 arg7 harg7 arg8 harg8 hc0 x0 x1 x2 x3 x4
      = left x0 x2 (slab0 x3) (slab1 x3) (slab2 x3) (slab3 x3) (k0_pay17 (F := Ideal) x4 x1) := by
  unfold out0_A_5
  rw [View.read_writes_eq_canon _ _ _ (cover0_A_5 c i arg3 harg3 arg4 harg4 arg5 harg5 arg6 harg6 arg7 harg7 arg8 harg8 hc0 x0 x1 x2 x3 x4)]
  unfold kernelRun0_A
  dsimp only
  sl_unfold_words
  rw [View.canon_cons_unit_zero (S := S1x384x2048) hz3, View.readCov_unit_zero (S := S1x384x2048) _ hz3]
  simp only [View.readAt_eq_ld, harg3.read_unread, harg4.read_unread, harg5.read_unread, harg6.read_unread,
    harg7.read_unread, harg8.read_unread, View.ld_unit_zero (S := S1x1x512x2048) hz4, View.ld_unit_zero (S := S1x384x512) hz3,
    View.ld_unit_zero (S := S1x392x2048) hz3, View.ld_unit_zero (S := S384x392) hz2]
  rfl

end

end Cert.Proof

end
-- ==== Proof.Grid.lean ====
/-
  The kernel's grid over the extended reals: the twelve grid points of a batch entry accumulate its result, the last of them
  writes it back, and the host turns the folded axis back into channels and times.
-/
module

public import proofs.«01_k».proof.Proof.HostArrays
public import proofs.«01_k».proof.Proof.Point

@[expose] public section

set_option maxRecDepth 16384

noncomputable section

namespace Cert.Proof

open Idealize.ShloMosaic Idealize.ShloMosaic.TcCoe Idealize.ShloMosaic.Tactic Idealize.SL Idealize.SL.RA Idealize.SL.BI
open Idealize.SL.Sem Idealize.ShloMosaic.Pipeline Cert.KernelIdeal Cert.KernelIdeal.Gen

variable (m : (ℓ : Loc nD τ sig) → Buf (Elt Ideal) ℓ) (c : Dev nD)

/-- Where each window stands at a grid point. -/
theorem index_at : ∀ t : Fin cfg0.N,
    (win0_0.index t 0 = t.val / 12 ∧ win0_0.index t 1 = t.val / 4 % 3 ∧ win0_0.index t 2 = t.val % 4 ∧ win0_0.index t 3 = 0)
    ∧ (win0_1.index t 0 = t.val / 12 ∧ win0_1.index t 1 = 0 ∧ win0_1.index t 2 = 0)
    ∧ (win0_2.index t 0 = t.val / 12 ∧ win0_2.index t 1 = 0 ∧ win0_2.index t 2 = t.val % 4)
    ∧ (win0_3.index t 0 = t.val / 4 % 3 ∧ win0_3.index t 1 = 0 ∧ win0_3.index t 2 = 0 ∧ win0_3.index t 3 = 0)
    ∧ (win0_4.index t 0 = 0 ∧ win0_4.index t 1 = 0)
    ∧ (win0_5.index t 0 = t.val / 12 ∧ win0_5.index t 1 = 0 ∧ win0_5.index t 2 = 0) := by
  have h : ∀ t : Fin grid0.N,
    (win0_0.index t 0 = t.val / 12 ∧ win0_0.index t 1 = t.val / 4 % 3 ∧ win0_0.index t 2 = t.val % 4 ∧ win0_0.index t 3 = 0)
    ∧ (win0_1.index t 0 = t.val / 12 ∧ win0_1.index t 1 = 0 ∧ win0_1.index t 2 = 0)
    ∧ (win0_2.index t 0 = t.val / 12 ∧ win0_2.index t 1 = 0 ∧ win0_2.index t 2 = t.val % 4)
    ∧ (win0_3.index t 0 = t.val / 4 % 3 ∧ win0_3.index t 1 = 0 ∧ win0_3.index t 2 = 0 ∧ win0_3.index t 3 = 0)
    ∧ (win0_4.index t 0 = 0 ∧ win0_4.index t 1 = 0)
    ∧ (win0_5.index t 0 = t.val / 12 ∧ win0_5.index t 1 = 0 ∧ win0_5.index t 2 = 0) := by decide +kernel
  exact h

variable {t : Fin cfg0.N} {n : Fin 4} {i : Fin 3} {s : Fin 4}

/-- The support's block of rows at a grid point. -/
theorem iblk0_at (ht : t.val = 12 * n.val + 4 * i.val + s.val) (r : Fin 512) (w : Fin 2048) :
    (iblk m c 0 t : Vec Ideal S1x1x512x2048 .f32) (ix4 0 0 r w) = V m c main_arg1 (ix4 n i (vrow s r) w) := by
  obtain ⟨h0, h1, h2, h3⟩ := (index_at t).1
  unfold iblk
  rw [View.read_apply]
  show V m c main_arg1 _ = V m c main_arg1 _
  congr 1
  funext a
  apply Fin.ext
  match a with
  | ⟨0, _⟩ => show win0_0.index t 0 * 1 + 1 * 0 = n.val; rw [h0]; omega
  | ⟨1, _⟩ => show win0_0.index t 1 * 1 + 1 * 0 = i.val; rw [h1]; omega
  | ⟨2, _⟩ => show win0_0.index t 2 * 512 + 1 * r.val = 512 * s.val + r.val; rw [h2]; omega
  | ⟨3, _⟩ => show win0_0.index t 3 * 2048 + 1 * w.val = w.val; rw [h3]; omega

/-- The folded input with its row of ones at a grid point. -/
theorem iblk1_at (ht : t.val = 12 * n.val + 4 * i.val + s.val) (q : Fin 392) (w : Fin 2048) :
    (iblk m c 1 t : Vec Ideal S1x392x2048 .f32) (ix3 0 q w) = V m c main_v169 (ix3 n q w) := by
  obtain ⟨h0, h1, h2⟩ := (index_at t).2.1
  unfold iblk
  rw [View.read_apply]
  show V m c main_v169 _ = V m c main_v169 _
  congr 1
  funext a
  apply Fin.ext
  match a with
  | ⟨0, _⟩ => show win0_1.index t 0 * 1 + 1 * 0 = n.val; rw [h0]; omega
  | ⟨1, _⟩ => show win0_1.index t 1 * 392 + 1 * q.val = q.val; rw [h1]; omega
  | ⟨2, _⟩ => show win0_1.index t 2 * 2048 + 1 * w.val = w.val; rw [h2]; omega

/-- The folded input's block of columns at a grid point. -/
theorem iblk2_at (ht : t.val = 12 * n.val + 4 * i.val + s.val) (q : Fin 384) (r : Fin 512) :
    (iblk m c 2 t : Vec Ideal S1x384x512 .f32) (ix3 0 q r) = V m c main_v166 (ix3 n q (vrow s r)) := by
  obtain ⟨h0, h1, h2⟩ := (index_at t).2.2.1
  unfold iblk
  rw [View.read_apply]
  show V m c main_v166 _ = V m c main_v166 _
  congr 1
  funext a
  apply Fin.ext
  match a with
  | ⟨0, _⟩ => show win0_2.index t 0 * 1 + 1 * 0 = n.val; rw [h0]; omega
  | ⟨1, _⟩ => show win0_2.index t 1 * 384 + 1 * q.val = q.val; rw [h1]; omega
  | ⟨2, _⟩ => show win0_2.index t 2 * 512 + 1 * r.val = 512 * s.val + r.val; rw [h2]; omega

/-- The four matrices of the support at a grid point. -/
theorem iblk3_at (ht : t.val = 12 * n.val + 4 * i.val + s.val) (k : Fin 4) (p q : Fin 384) :
    (iblk m c 3 t : Vec Ideal S1x4x384x384 .f32) (ix4 0 k p q) = V m c main_v152 (ix4 i k p q) := by
  obtain ⟨h0, h1, h2, h3⟩ := (index_at t).2.2.2.1
  unfold iblk
  rw [View.read_apply]
  show V m c main_v152 _ = V m c main_v152 _
  congr 1
  funext a
  apply Fin.ext
  match a with
  | ⟨0, _⟩ => show win0_3.index t 0 * 1 + 1 * 0 = i.val; rw [h0]; omega
  | ⟨1, _⟩ => show win0_3.index t 1 * 4 + 1 * k.val = k.val; rw [h1]; omega
  | ⟨2, _⟩ => show win0_3.index t 2 * 384 + 1 * p.val = p.val; rw [h2]; omega
  | ⟨3, _⟩ => show win0_3.index t 3 * 384 + 1 * q.val = q.val; rw [h3]; omega

/-- The first matrix, whole at every grid point. -/
theorem iblk4_at (p : Fin 384) (q : Fin 392) :
    (iblk m c 4 t : Vec Ideal S384x392 .f32) (ix2 p q) = V m c main_v164 (ix2 p q) := by
  obtain ⟨h0, h1⟩ := (index_at t).2.2.2.2.1
  unfold iblk
  rw [View.read_apply]
  show V m c main_v164 _ = V m c main_v164 _
  congr 1
  funext a
  apply Fin.ext
  match a with
  | ⟨0, _⟩ => show win0_4.index t 0 * 384 + 1 * p.val = p.val; rw [h0]; omega
  | ⟨1, _⟩ => show win0_4.index t 1 * 392 + 1 * q.val = q.val; rw [h1]; omega

variable {m c} {d : Data} (h : Holds (fun b => m (c, b)) d) (hs : ∀ n i v, Strict (d.S n i v))
include h hs

/-- At every grid point the body adds the point's product to what the accumulator held. -/
theorem body_at (ht : t.val = 12 * n.val + 4 * i.val + s.val) (acc : Vec Ideal S1x384x2048 .f32) (p : Fin 384) (w : Fin 2048) :
    left (iblk m c 0 t) (iblk m c 2 t) (slab0 (iblk m c 3 t)) (slab1 (iblk m c 3 t)) (slab2 (iblk m c 3 t)) (slab3 (iblk m c 3 t))
      acc (ix3 0 p w) = acc (ix3 0 p w) + (d.point n i s p w : EReal) := by
  have hU : ∀ k p q, (iblk m c 3 t : Vec Ideal S1x4x384x384 .f32) (ix4 0 k p q) = (d.Us i k p q : EReal) := fun k p q =>
    (iblk3_at m c ht k p q).trans (Us_at h i k p q)
  exact left_at (row := fun r => d.S n i (vrow s r)) (U := fun k => d.Us i k) (xs := fun q r => d.xt n q (vrow s r))
    (fun r => hs _ _ _) (fun r w => (iblk0_at m c ht r w).trans ((congrFun (V_main_arg1 m c) _).trans (h.h1 _ _ _ _)))
    (fun q r => (iblk2_at m c ht q r).trans (xt_at h _ _ _))
    (fun p q => ((slab_at _ p q).1).trans (hU 0 p q)) (fun p q => ((slab_at _ p q).2.1).trans (hU 1 p q))
    (fun p q => ((slab_at _ p q).2.2.1).trans (hU 2 p q)) (fun p q => ((slab_at _ p q).2.2.2).trans (hU 3 p q)) p w

omit hs in
/-- The starting product of a batch entry. -/
theorem base_at (ht : t.val = 12 * n.val + 4 * i.val + s.val) (p : Fin 384) (w : Fin 2048) :
    k0_pay17 (F := Ideal) (iblk m c 4 t) (iblk m c 1 t) (ix3 0 p w) = (d.init n p w : EReal) :=
  start_at (a := d.U0L) (b := d.xt1 n) (fun p q => (iblk4_at m c p q).trans (U0L_at h p q))
    (fun q w => (iblk1_at m c ht q w).trans (xt1_at h n q w)) p w

/-- After `k + 1` grid points of a batch entry the accumulator holds the start and those points' products. -/
theorem fold_at (n : Fin 4) (p : Fin 384) (w : Fin 2048) : ∀ (k : ℕ) (hk : k < 12) (hN : 12 * n.val + k < cfg0.N),
    outsAt0 m c (12 * n.val + k) hN (ix3 0 p w)
      = ((d.init n p w + ∑ j ∈ Finset.range (k + 1), d.point n ⟨j / 4 % 3, by omega⟩ ⟨j % 4, by omega⟩ p w : ℝ) : EReal)
  | 0, hk, hN => by
    rw [outsAt0_A m c ⟨12 * n.val + 0, hN⟩ (by simp), out_A, body_at h hs (n := n) (i := 0) (s := 0) (by simp),
      base_at h (n := n) (i := 0) (s := 0) (by simp), Finset.sum_range_one, EReal.coe_add]
    rfl
  | k + 1, hk, hN => by
    have ih := fold_at n p w k (by omega) (by omega)
    rw [outsAt0_B m c ⟨12 * n.val + (k + 1), hN⟩ (by dsimp only; omega), out_B,
      body_at h hs (n := n) (i := ⟨(k + 1) / 4 % 3, by omega⟩) (s := ⟨(k + 1) % 4, by omega⟩) (by dsimp only; omega),
      Finset.sum_range_succ]
    refine Eq.trans ?_ (congrArg (fun x : ℝ => (x : EReal)) (add_assoc _ _ _))
    rw [EReal.coe_add, ← ih]
    rfl

/-- The last grid point of a batch entry leaves the entry's result. -/
theorem last_at (n : Fin 4) (p : Fin 384) (w : Fin 2048) (hN : 12 * n.val + 11 < cfg0.N) :
    outsAt0 m c (12 * n.val + 11) hN (ix3 0 p w) = (d.acc n p w : EReal) := by
  rw [fold_at h hs n p w 11 (by decide) hN]
  congr 1
  unfold Data.acc
  simp only [Finset.sum_range_succ, Finset.sum_range_zero, Fin.sum_univ_three, Fin.sum_univ_four]
  simp only [Nat.reduceDiv, Nat.reduceMod]
  norm_num
  simp only [add_assoc]
  rfl

/-- At a batch entry's last grid point the accumulator holds that entry's result. -/
theorem last_all (t : Fin cfg0.N) (ht : t.val % 12 = 11) (hn : t.val / 12 < 4) (x : S1x384x2048.Idx) :
    outsAt0 m c t.val t.isLt x = (d.acc ⟨t.val / 12, hn⟩ (x 1) (x 2) : EReal) := by
  have hlt := t.isLt
  have hx : x = ix3 (0 : Fin 1) (x 1) (x 2) := by
    funext a
    match a with
    | ⟨0, _⟩ => exact Fin.ext (Nat.lt_one_iff.mp (x 0).isLt)
    | ⟨1, _⟩ => rfl
    | ⟨2, _⟩ => rfl
  have e := last_at h hs ⟨t.val / 12, hn⟩ (x 1) (x 2) (by dsimp only; omega)
  have ht' : 12 * (⟨t.val / 12, hn⟩ : Fin 4).val + 11 = t.val := by dsimp only; omega
  simp only [ht'] at e
  rw [hx]
  exact e

omit h hs in
/-- What the result array ends holding. -/
def folded (d : Data) : Vec Ideal S4x384x2048 .f32 := fun j => (d.acc (j 0) (j 1) (j 2) : EReal)

/-- Each write-back, at a batch entry's last grid point, writes that entry's block of it. -/
theorem flushed_eq (t : Fin cfg0.N) (hf : (cfg0.win 5).flush t = true) :
    (dats m 0 c).flushed 5 t = ((cfg0.win 5).blk t).view.read (Elt Ideal) (folded d) := by
  have hN : cfg0.N = 48 := N_0
  have ht : t.val % 12 = 11 := (flush0_5 t).mp hf
  have hlt := t.isLt
  obtain ⟨h0, h1, h2⟩ := (index_at t).2.2.2.2.2
  show (cfg0.win 5).cut (grid0.coords t) ((dats m 0 c).after 5 t) = _
  rw [after0_5]
  funext x
  rw [View.read_apply]
  refine (last_all h hs t ht (by omega) x).trans ?_
  have hx0 : (x 0).val = 0 := Nat.lt_one_iff.mp (x 0).isLt
  have e0 : ((cfg0.win 5).blk t).view.emb x 0 = (⟨t.val / 12, by omega⟩ : Fin 4) := Fin.ext (by
    show win0_5.index t 0 * 1 + 1 * (x 0).val = t.val / 12; rw [h0, hx0]; omega)
  have e1 : ((cfg0.win 5).blk t).view.emb x 1 = x 1 := Fin.ext (by
    show win0_5.index t 1 * 384 + 1 * (x 1).val = (x 1).val; rw [h1]; omega)
  have e2 : ((cfg0.win 5).blk t).view.emb x 2 = x 2 := Fin.ext (by
    show win0_5.index t 2 * 2048 + 1 * (x 2).val = (x 2).val; rw [h2]; omega)
  show _ = ((d.acc (((cfg0.win 5).blk t).view.emb x 0) (((cfg0.win 5).blk t).view.emb x 1) (((cfg0.win 5).blk t).view.emb x 2) : ℝ) : EReal)
  rw [e0, e1, e2]

/-- So the result array ends holding every batch entry's result. -/
theorem final_folded : (dats m 0 c).arrAt 5 cfg0.N = folded d :=
  (dats m 0 c).arrAt_eq_of_cover 5 (folded d) (flushed_eq h hs) fun j => by
    have hN : cfg0.N = 48 := N_0
    have b0 : (j 0 : Nat) < 4 := (j 0).isLt
    have b1 : (j 1 : Nat) < 384 := (j 1).isLt
    have b2 : (j 2 : Nat) < 2048 := (j 2).isLt
    have hlt : 12 * (j 0 : Nat) + 11 < cfg0.N := by omega
    obtain ⟨h0, h1, h2⟩ := (index_at ⟨12 * (j 0 : Nat) + 11, hlt⟩).2.2.2.2.2
    refine ⟨⟨12 * (j 0 : Nat) + 11, hlt⟩, (flush0_5 _).mpr (by dsimp only; omega), ?_⟩
    show j ∈ ((View.whole main_v170).slice (win0_5.rect ⟨12 * (j 0 : Nat) + 11, hlt⟩)).set
    rw [View.set_slice_whole, Rect.mem_set_unit]
    intro a
    match a with
    | ⟨0, _⟩ => show win0_5.index _ 0 * 1 ≤ (j 0 : Nat) ∧ (j 0 : Nat) < win0_5.index _ 0 * 1 + 1
                rw [h0]; dsimp only; omega
    | ⟨1, _⟩ => show win0_5.index _ 1 * 384 ≤ (j 1 : Nat) ∧ (j 1 : Nat) < win0_5.index _ 1 * 384 + 384
                rw [h1]; omega
    | ⟨2, _⟩ => show win0_5.index _ 2 * 2048 ≤ (j 2 : Nat) ∧ (j 2 : Nat) < win0_5.index _ 2 * 2048 + 2048
                rw [h2]; omega

omit h hs in
/-- The host's operations after the region turn the folded axis back into channels and times. -/
theorem tail_at (W : Valuation τ sig (Elt Ideal)) (n : Fin 4) (o : Fin 32) (w : Fin 2048) (l : Fin 12) :
    StableHlo.after (List.flatten [hostOps1]) W (Proc.devRef .tc main_v172) (ix4 n o w l)
      = W (Proc.devRef .tc main_v170) (ix3 n ⟨o.val * 12 + l.val, by omega⟩ w) := by
  after_reads_at

/-- The kernel's result, at an index, is the reference's formula. -/
theorem result_at (n : Fin 4) (o : Fin 32) (w : Fin 2048) (l : Fin 12) :
    Pipeline.afterTail₀ cfgs (dats m) 0 (V0 m) [hostOps1] c main_v172 (ix4 n o w l) = (d.out n o w l : EReal) := by
  unfold Pipeline.afterTail₀
  refine (tail_at _ n o w l).trans ((congrFun (Pipeline.withArrays_arr spec0 (by decide) c (V0 m c)
    (fun k => (dats m 0 c).arrAt k cfg0.N) 5) _).trans ((congrFun (final_folded h hs) _).trans ?_))
  show ((d.acc n ⟨o.val * 12 + l.val, by omega⟩ w : ℝ) : EReal) = _
  rw [d.acc_eq n o l _ (by dsimp only; omega) w]

end Cert.Proof

end
-- ==== Proof.TopK.lean ====
/-
  The reference's mask, one support at a time: `top_k` along the rows, and the scatter that puts the kept entries back
  into an array of −∞. Read at an index, the result is the row's entry where it is among the kept ones, −∞ elsewhere.
-/
module

public import Idealize.ShloMosaic.Lib.Routing.OpsSet
public import Idealize.ShloMosaic.Lib.Pointwise
public import proofs.«01_k».proof.Proof.Row

@[expose] public section

noncomputable section

namespace Cert.Proof

open Idealize.ShloMosaic Idealize.ShloMosaic.Routing

/-- Over the extended reals a row of real entries is sorted as its real entries are. -/
theorem sorted_coe {f : Fin 2048 → EReal} {r : Fin 2048 → ℝ} (hf : ∀ w, f w = (r w : EReal)) :
    sortedFrom (fun k k' => FloatOps.cmpfTotal (F := Ideal) (φ := .f32) .gt (f k) (f k') == 1#1) = ord r := by
  refine sortedFrom_congr _ _ fun k k' _ => ?_
  rw [Ideal.cmpfTotal_def, hf, hf]
  change (BitVec.ofBool (decide ((r k' : EReal) < (r k : EReal))) == 1#1) = _
  simp only [EReal.coe_lt_coe_iff]
  by_cases h : r k' < r k <;> simp [h]

/-- An axis sorted by the first of two operands, read on the line of an index: the line by its own order. -/
theorem sort2_line {s : Shape} {d : ℕ} {α β : Type} (hd : d < s.rank) (gt : α → α → BitVec 1) (x : s.Idx → α) (y : s.Idx → β)
    (j : s.Idx) (L : Fin (s.size ⟨d, hd⟩) → s.Idx) (hL : ∀ w, j.along ⟨d, hd⟩ w = L w)
    (π : Fin (s.size ⟨d, hd⟩) → Fin (s.size ⟨d, hd⟩)) (hπ : sortedFrom (fun k k' => gt (x (L k)) (x (L k')) == 1#1) = π) :
    (Host.sort2 s d (fun l r => gt l.1 r.1) x y).1 j = x (L (π (j ⟨d, hd⟩)))
      ∧ (Host.sort2 s d (fun l r => gt l.1 r.1) x y).2 j = y (L (π (j ⟨d, hd⟩))) := by
  unfold Host.sort2
  rw [dif_pos hd]
  simp only [hL, hπ, and_self]

/-- The last axis of a stack of matrices sorted by the first of two operands: each row by its own order. -/
theorem sort2_row {A B N : ℕ} {α β : Type} (gt : α → α → BitVec 1) (x : (⟨3, ![A, B, N]⟩ : Shape).Idx → α)
    (y : (⟨3, ![A, B, N]⟩ : Shape).Idx → β) (n : Fin A) (v : Fin B) (j : Fin N) (π : Fin N → Fin N)
    (hπ : sortedFrom (fun k k' => gt (x (ix3 n v k)) (x (ix3 n v k')) == 1#1) = π) :
    (Host.sort2 ⟨3, ![A, B, N]⟩ 2 (fun l r => gt l.1 r.1) x y).1 (ix3 n v j) = x (ix3 n v (π j))
      ∧ (Host.sort2 ⟨3, ![A, B, N]⟩ 2 (fun l r => gt l.1 r.1) x y).2 (ix3 n v j) = y (ix3 n v (π j)) :=
  sort2_line (s := ⟨3, ![A, B, N]⟩) (d := 2) (Nat.lt_succ_self 2) gt x y (ix3 n v j) (fun w => ix3 n v w) (fun w => by
    funext a
    match a with
    | ⟨0, _⟩ => rfl
    | ⟨1, _⟩ => rfl
    | ⟨2, _⟩ => rfl) π hπ

/-- `top_k` of every row of a stack of matrices, in terms of the row's order. -/
theorem topK_row {A B N k : ℕ} {α : Type} (gt : α → α → BitVec 1) (x : (⟨3, ![A, B, N]⟩ : Shape).Idx → α) (n : Fin A)
    (v : Fin B) (hk : k ≤ N) (h : Shape.Slices ⟨3, ![A, B, N]⟩ (fun _ => 0) ⟨3, ![A, B, k]⟩) (q : Fin k) (π : Fin N → Fin N)
    (hπ : sortedFrom (fun k k' => gt (x (ix3 n v k)) (x (ix3 n v k')) == 1#1) = π) :
    (Host.topK ⟨3, ![A, B, k]⟩ 2 gt x h).1 (ix3 n v q) = x (ix3 n v (π (q.castLE hk)))
      ∧ (Host.topK ⟨3, ![A, B, k]⟩ 2 gt x h).2 (ix3 n v q) = BitVec.ofNat 32 (π (q.castLE hk)).val := by
  have hj : (fun a => ⟨0 + ((ix3 n v q : (⟨3, ![A, B, k]⟩ : Shape).Idx) (a.cast h.1.symm)).val,
      Nat.lt_of_lt_of_le (Nat.add_lt_add_left (ix3 n v q _).isLt _) (h.2 a)⟩ : (⟨3, ![A, B, N]⟩ : Shape).Idx)
      = ix3 n v (q.castLE hk) := by
    funext a
    refine Fin.ext ((Nat.zero_add _).trans ?_)
    match a with
    | ⟨0, _⟩ => rfl
    | ⟨1, _⟩ => rfl
    | ⟨2, _⟩ => rfl
  let y : IVec ⟨3, ![A, B, N]⟩ 32 := fun i => if hd : 2 < (⟨3, ![A, B, N]⟩ : Shape).rank then iotaInDim _ 32 ⟨2, hd⟩ i else 0#32
  have hs := sort2_row gt x y n v (q.castLE hk) π hπ
  exact ⟨(congrArg (Host.sort2 ⟨3, ![A, B, N]⟩ 2 (fun l r => gt l.1 r.1) x y).1 hj).trans hs.1,
    (congrArg (Host.sort2 ⟨3, ![A, B, N]⟩ 2 (fun l r => gt l.1 r.1) x y).2 hj).trans hs.2⟩

/-- The `k` greatest entries of every row of a stack of real matrices, and their columns. -/
theorem topK3_at {k : ℕ} {x : FVec Ideal ⟨3, ![4, 2048, 2048]⟩ .f32} {r : Fin 2048 → ℝ} (n : Fin 4) (v : Fin 2048)
    (hx : ∀ w, x (ix3 n v w) = (r w : EReal)) (hk : k ≤ 2048)
    (h : Shape.Slices ⟨3, ![4, 2048, 2048]⟩ (fun _ => 0) ⟨3, ![4, 2048, k]⟩) (q : Fin k) :
    (Host.topK ⟨3, ![4, 2048, k]⟩ 2 (FloatOps.cmpfTotal .gt) x h).1 (ix3 n v q) = (r (ord r (q.castLE hk)) : EReal)
      ∧ (Host.topK ⟨3, ![4, 2048, k]⟩ 2 (FloatOps.cmpfTotal .gt) x h).2 (ix3 n v q)
        = BitVec.ofNat 32 (ord r (q.castLE hk)).val :=
  have := topK_row (FloatOps.cmpfTotal (F := Ideal) (φ := .f32) .gt) x n v hk h q _ (sorted_coe hx)
  ⟨this.1.trans (hx _), this.2⟩

/-- The greatest entries of every row of a stack of stacks of matrices, in terms of the row's order. -/
theorem topK4_at {A I B N k : ℕ} {α : Type} (gt : α → α → BitVec 1) (x : (⟨4, ![A, I, B, N]⟩ : Shape).Idx → α) (n : Fin A)
    (i : Fin I) (v : Fin B) (hk : k ≤ N) (h : Shape.Slices ⟨4, ![A, I, B, N]⟩ (fun _ => 0) ⟨4, ![A, I, B, k]⟩) (q : Fin k)
    (π : Fin N → Fin N) (hπ : sortedFrom (fun k k' => gt (x (ix4 n i v k)) (x (ix4 n i v k')) == 1#1) = π) :
    (Host.topK ⟨4, ![A, I, B, k]⟩ 3 gt x h).1 (ix4 n i v q) = x (ix4 n i v (π (q.castLE hk))) := by
  have hj : (fun a => ⟨0 + ((ix4 n i v q : (⟨4, ![A, I, B, k]⟩ : Shape).Idx) (a.cast h.1.symm)).val,
      Nat.lt_of_lt_of_le (Nat.add_lt_add_left (ix4 n i v q _).isLt _) (h.2 a)⟩ : (⟨4, ![A, I, B, N]⟩ : Shape).Idx)
      = ix4 n i v (q.castLE hk) := by
    funext a
    refine Fin.ext ((Nat.zero_add _).trans ?_)
    match a with
    | ⟨0, _⟩ => rfl
    | ⟨1, _⟩ => rfl
    | ⟨2, _⟩ => rfl
    | ⟨3, _⟩ => rfl
  let y : IVec ⟨4, ![A, I, B, N]⟩ 32 :=
    fun j => if hd : 3 < (⟨4, ![A, I, B, N]⟩ : Shape).rank then iotaInDim _ 32 ⟨3, hd⟩ j else 0#32
  have hs := sort2_line (s := ⟨4, ![A, I, B, N]⟩) (d := 3) (Nat.lt_succ_self 3) gt x y (ix4 n i v (q.castLE hk))
    (fun w => ix4 n i v w) (fun w => by
      funext a
      match a with
      | ⟨0, _⟩ => rfl
      | ⟨1, _⟩ => rfl
      | ⟨2, _⟩ => rfl
      | ⟨3, _⟩ => rfl) π hπ
  exact (congrArg (Host.sort2 ⟨4, ![A, I, B, N]⟩ 3 (fun l r => gt l.1 r.1) x y).1 hj).trans hs.1

/-- The scatter of `k` entries of every row, each by three index words: batch entry, row and column. -/
abbrev setDims (k : ℕ) (wf : ScatterDims.WF ⟨3, ![4, 2048, 2048]⟩ ⟨4, ![4, 2048, k, 3]⟩ ⟨3, ![4, 2048, k]⟩ [] [0, 1, 2] [0, 1, 2] 3) :
    ScatterDims ⟨3, ![4, 2048, 2048]⟩ ⟨4, ![4, 2048, k, 3]⟩ ⟨3, ![4, 2048, k]⟩ where
  updateWindowDims := []
  insertedWindowDims := [0, 1, 2]
  scatterDimsToOperandDims := [0, 1, 2]
  indexVectorDim := 3
  wf := wf

/-- An update lands at the element that its three words, read signed, name. -/
theorem setDims_lands {k : ℕ} {wf} (idx : IVec ⟨4, ![4, 2048, k, 3]⟩ 32) (n : Fin 4) (v : Fin 2048) (q : Fin k)
    (n' : Fin 4) (v' w' : Fin 2048) :
    (setDims k wf).resultIdx? (ix3 n v q) idx = some (ix3 n' v' w')
      ↔ (idx (ix4 n v q 0)).toInt = n'.val ∧ (idx (ix4 n v q 1)).toInt = v'.val ∧ (idx (ix4 n v q 2)).toInt = w'.val := by
  have hw : ∀ a, (setDims k wf).window (ix3 n v q) a = 0 := fun a => by
    unfold ScatterDims.window
    exact dif_neg fun h => (of_decide_eq_true (List.mem_filter.1 h).2) (by fin_cases a <;> simp)
  have hi : ∀ c : Fin 3, (setDims k wf).siIdx (ix3 n v q) c = ix4 n v q c := fun c => by
    funext b
    match b with
    | ⟨0, _⟩ => rfl
    | ⟨1, _⟩ => rfl
    | ⟨2, _⟩ => rfl
    | ⟨3, _⟩ => rfl
  have hst : ∀ a : Fin 3, (setDims k wf).start (ix3 n v q) idx a = (idx (ix4 n v q a)).toInt := fun a => by
    unfold ScatterDims.start
    rw [dif_pos (by fin_cases a <;> simp)]
    refine congrArg (fun i => (idx i).toInt) ((congrArg ((setDims k wf).siIdx (ix3 n v q)) (?_ : _ = a)).trans (hi a))
    refine Fin.ext ?_
    fin_cases a <;> rfl
  rw [resultIdx?_eq_some]
  constructor
  · intro h
    have h0 := h 0
    have h1 := h 1
    have h2 := h 2
    rw [hst, hw] at h0 h1 h2
    exact ⟨by simpa using h0, by simpa using h1, by simpa using h2⟩
  · intro h a
    rw [hst, hw]
    match a with
    | ⟨0, _⟩ => simpa using h.1
    | ⟨1, _⟩ => simpa using h.2.1
    | ⟨2, _⟩ => simpa using h.2.2

/-- The kept entries put back into an array of −∞: the masked row. -/
theorem masked_at {k : ℕ} {wf} {R : Fin 4 → Fin 2048 → Fin 2048 → ℝ} (hs : ∀ n v, Strict (R n v)) (t : Fin 4) (ht : t ≠ 3)
    (hk : k ≤ 2048) (hkt : kept t = k)
    {x0 : FVec Ideal ⟨3, ![4, 2048, 2048]⟩ .f32} (h0 : ∀ n v w, x0 (ix3 n v w) = (⊥ : EReal))
    {idx : IVec ⟨4, ![4, 2048, k, 3]⟩ 32}
    (hb : ∀ n v q, idx (ix4 n v q 0) = BitVec.ofNat 32 n.val) (hv : ∀ n v q, idx (ix4 n v q 1) = BitVec.ofNat 32 v.val)
    (hw : ∀ n v q, idx (ix4 n v q 2) = BitVec.ofNat 32 (ord (R n v) (Fin.castLE hk q)).val)
    {upd : FVec Ideal ⟨3, ![4, 2048, k]⟩ .f32} (hu : ∀ n v q, upd (ix3 n v q) = (R n v (ord (R n v) (Fin.castLE hk q)) : EReal))
    (n : Fin 4) (v w : Fin 2048) :
    Host.scatter (setDims k wf) (fun _ b => b) x0 idx upd (ix3 n v w) = msk (R n v) t w := by
  have hl : ∀ n' v' q, (setDims k wf).resultIdx? (ix3 n' v' q) idx = some (ix3 n v w)
      ↔ n' = n ∧ v' = v ∧ ord (R n' v') (Fin.castLE hk q) = w := fun n' v' q => by
    rw [setDims_lands, hb, hv, hw, StableHlo.Predicate.toInt_ofNat_small _ (by omega),
      StableHlo.Predicate.toInt_ofNat_small _ (by omega), StableHlo.Predicate.toInt_ofNat_small _ (by omega)]
    simp only [Fin.ext_iff]
    omega
  have hix : ∀ κ : (⟨3, ![4, 2048, k]⟩ : Shape).Idx, ∃ n' v' q, κ = ix3 n' v' q := fun κ =>
    ⟨κ 0, κ 1, κ 2, by
      funext a
      match a with
      | ⟨0, _⟩ => rfl
      | ⟨1, _⟩ => rfl
      | ⟨2, _⟩ => rfl⟩
  obtain ⟨i, rfl⟩ := ord_surj (r := R n v) w
  have hki := kept_iff (hs n v) t ht i
  by_cases hi : i.val < k
  · rw [msk, if_pos (hki.2 (hkt ▸ hi))]
    refine scatter_set_hit _ _ _ _ _ _ (fun κ h => ?_) (ix3 n v ⟨i.val, hi⟩) ((hl _ _ _).2 ⟨rfl, rfl, rfl⟩)
    obtain ⟨n', v', q, rfl⟩ := hix κ
    obtain ⟨rfl, rfl, h⟩ := (hl _ _ _).1 h
    rw [hu, h]
  · rw [msk, if_neg fun h => hi (hkt ▸ hki.1 h)]
    refine (scatter_set_miss _ _ _ _ _ fun κ h => ?_).trans (h0 n v _)
    obtain ⟨n', v', q, rfl⟩ := hix κ
    obtain ⟨rfl, rfl, h⟩ := (hl _ _ _).1 h
    have := ord_inj h
    exact hi (this ▸ q.isLt)

end Cert.Proof

end
-- ==== Proof.RefMask.lean ====
/-
  The reference's masked supports: `top_k`, the index words as jnp writes them (each wrapped when negative), and the scatter.
-/
module

public import proofs.«01_k».proof.Proof.TopK
public import proofs.«01_k».proof.Proof.Rounds

@[expose] public section

noncomputable section

namespace Cert.Proof

open Idealize.ShloMosaic Idealize.ShloMosaic.Routing

set_option maxRecDepth 16384 in
/-- The reference's mask as its operations write it, for one `k` and one support: the masked rows. -/
theorem knn_at {k : ℕ} {R : Fin 4 → Fin 2048 → Fin 2048 → ℝ} (hs : ∀ n v, Strict (R n v)) (t : Fin 4) (ht : t ≠ 3)
    (hk : k ≤ 2048) (hk1 : k ≠ 1) (hkt : kept t = k) {wf}
    {hsl : Shape.Slices ⟨3, ![4, 2048, 2048]⟩ (fun _ => 0) ⟨3, ![4, 2048, k]⟩}
    {b0 : Shape.BroadcastsInDim ⟨0, ![]⟩ ⟨3, ![4, 2048, 2048]⟩ ![]}
    {b1 : Shape.BroadcastsInDim ⟨1, ![4]⟩ ⟨3, ![4, 1, 1]⟩ ![0]}
    {b2 : Shape.BroadcastsInDim ⟨1, ![2048]⟩ ⟨3, ![1, 2048, 1]⟩ ![1]}
    {b3 : Shape.BroadcastsInDim ⟨0, ![]⟩ ⟨3, ![4, 1, 1]⟩ ![]}
    {b4 : Shape.BroadcastsInDim ⟨0, ![]⟩ ⟨3, ![1, 2048, 1]⟩ ![]}
    {b5 : Shape.BroadcastsInDim ⟨0, ![]⟩ ⟨3, ![4, 2048, k]⟩ ![]}
    {b6 : Shape.BroadcastsInDim ⟨3, ![4, 1, 1]⟩ ⟨3, ![4, 2048, k]⟩ ![0, 1, 2]}
    {b7 : Shape.BroadcastsInDim ⟨3, ![1, 2048, 1]⟩ ⟨3, ![4, 2048, k]⟩ ![0, 1, 2]}
    {b8 : Shape.BroadcastsInDim ⟨3, ![4, 2048, k]⟩ ⟨4, ![4, 2048, k, 1]⟩ ![0, 1, 2]}
    {hc : Shape.Concatenates [⟨4, ![4, 2048, k, 1]⟩, ⟨4, ![4, 2048, k, 1]⟩, ⟨4, ![4, 2048, k, 1]⟩] ⟨4, ![4, 2048, k, 3]⟩ 3}
    (x : FVec Ideal ⟨3, ![4, 2048, 2048]⟩ .f32) (hx : ∀ n v w, x (ix3 n v w) = (R n v w : EReal))
    (bt : IVec ⟨3, ![4, 1, 1]⟩ 32) (hbt : bt = broadcastInDim ⟨3, ![4, 1, 1]⟩ ![0] b1 (iotaInDim ⟨1, ![4]⟩ 32 0))
    (rw : IVec ⟨3, ![1, 2048, 1]⟩ 32) (hrw : rw = broadcastInDim ⟨3, ![1, 2048, 1]⟩ ![1] b2 (iotaInDim ⟨1, ![2048]⟩ 32 0))
    (cl : IVec ⟨3, ![4, 2048, k]⟩ 32) (hcl : cl = (Host.topK ⟨3, ![4, 2048, k]⟩ 2 (FloatOps.cmpfTotal .gt) x hsl).2)
    (n : Fin 4) (v w : Fin 2048) :
    Host.scatter (setDims k wf) (fun _ b => b)
      (broadcastInDim ⟨3, ![4, 2048, 2048]⟩ ![] b0 (constant (F := Ideal) ⟨0, ![]⟩ .f32 0xFF800000#32))
      (concatenate ⟨4, ![4, 2048, k, 3]⟩ 3
        [⟨⟨4, ![4, 2048, k, 1]⟩, broadcastInDim ⟨4, ![4, 2048, k, 1]⟩ ![0, 1, 2] b8 (broadcastInDim ⟨3, ![4, 2048, k]⟩ ![0, 1, 2] b6
            (select (cmpi .slt bt (broadcastInDim ⟨3, ![4, 1, 1]⟩ ![] b3 (constantI ⟨0, ![]⟩ 32 0#32)))
              (addi bt (broadcastInDim ⟨3, ![4, 1, 1]⟩ ![] b3 (constantI ⟨0, ![]⟩ 32 4#32))) bt))⟩,
          ⟨⟨4, ![4, 2048, k, 1]⟩, broadcastInDim ⟨4, ![4, 2048, k, 1]⟩ ![0, 1, 2] b8 (broadcastInDim ⟨3, ![4, 2048, k]⟩ ![0, 1, 2] b7
            (select (cmpi .slt rw (broadcastInDim ⟨3, ![1, 2048, 1]⟩ ![] b4 (constantI ⟨0, ![]⟩ 32 0#32)))
              (addi rw (broadcastInDim ⟨3, ![1, 2048, 1]⟩ ![] b4 (constantI ⟨0, ![]⟩ 32 2048#32))) rw))⟩,
          ⟨⟨4, ![4, 2048, k, 1]⟩, broadcastInDim ⟨4, ![4, 2048, k, 1]⟩ ![0, 1, 2] b8
            (select (cmpi .slt cl (broadcastInDim ⟨3, ![4, 2048, k]⟩ ![] b5 (constantI ⟨0, ![]⟩ 32 0#32)))
              (addi cl (broadcastInDim ⟨3, ![4, 2048, k]⟩ ![] b5 (constantI ⟨0, ![]⟩ 32 2048#32))) cl)⟩] hc)
      (Host.topK ⟨3, ![4, 2048, k]⟩ 2 (FloatOps.cmpfTotal .gt) x hsl).1 (ix3 n v w) = msk (R n v) t w := by
  refine masked_at hs t ht hk hkt (fun n v w => ?_) (fun n v q => ?_) (fun n v q => ?_) (fun n v q => ?_)
    (fun n v q => (topK3_at n v (hx n v) hk hsl q).1) n v w
  · pointwise
    exact ofBits_ninf
  · subst hbt
    pointwise
    exact wrap_of_lt _ _ (lt_of_eq_of_lt (BitVec.toNat_ofNat n.val 32) (by omega))
  · subst hrw
    pointwise
    exact wrap_of_lt _ _ (lt_of_eq_of_lt (BitVec.toNat_ofNat v.val 32) (by omega))
  · have := fun n v q => (topK3_at n v (hx n v) hk hsl q).2
    simp only [← hcl] at this
    pointwise
    refine (congrArg (fun i => Scalar.select (IntOp.cmpi .slt (cl i) 0#32) (IntOp.addi (cl i) 2048#32) (cl i))
      (?_ : _ = ix3 n v q)).trans ?_
    · funext a
      match a with
      | ⟨0, _⟩ => rfl
      | ⟨1, _⟩ => rfl
      | ⟨2, _⟩ => exact dif_neg hk1
    · simp only [this]
      exact wrap_of_lt _ _ (lt_of_eq_of_lt (BitVec.toNat_ofNat _ 32) (by omega))

end Cert.Proof

end
-- ==== Proof.RefParts.lean ====
/-
  The parts of the reference, each read at an index: the softmax of a masked support, the graph convolution, the linear maps.
-/
module

public import proofs.«01_k».proof.Proof.Gen.ReferenceIdeal
public import proofs.«01_k».proof.Proof.RefMask
public import proofs.«01_k».proof.Proof.Spec

@[expose] public section

set_option maxRecDepth 16384

noncomputable section

namespace Cert.Proof

open Idealize.ShloMosaic Cert.ReferenceIdeal Cert.ReferenceIdeal.Gen

/-- The greatest entry of every row of a stack of matrices. -/
theorem rowGreatest_at {A B N : ℕ} (y : FVec Ideal ⟨3, ![A, B, N]⟩ .f32) (h : (⟨3, ![A, B, N]⟩ : Shape).ReducesTo [2] ⟨2, ![A, B]⟩)
    (h0 : 0 < (⟨0, ![]⟩ : Shape).numel) (n : Fin A) (v : Fin B) :
    Host.reduce FloatOps.maximumf y (constant (F := Ideal) ⟨0, ![]⟩ .f32 0xFF800000#32) h h0 (ix2 n v)
      = Finset.univ.fold max ⊥ (fun w => y (ix3 n v w)) := by
  pointwise
  rw [ofBits_ninf]

/-- An array minus a column, exponentiated. -/
theorem expSub_at {A B N : ℕ} (hN : N ≠ 1) (hB : B ≠ 1) (hA : A ≠ 1) (y : FVec Ideal ⟨3, ![A, B, N]⟩ .f32) (m : FVec Ideal ⟨2, ![A, B]⟩ .f32)
    (b0 : Shape.BroadcastsInDim ⟨0, ![]⟩ ⟨2, ![A, B]⟩ ![]) (b1 : Shape.BroadcastsInDim ⟨2, ![A, B]⟩ ⟨3, ![A, B, 1]⟩ ![0, 1])
    (b2 : Shape.BroadcastsInDim ⟨3, ![A, B, 1]⟩ ⟨3, ![A, B, N]⟩ ![0, 1, 2]) (n : Fin A) (v : Fin B) (w : Fin N) :
    Host.exp (subf y (broadcastInDim ⟨3, ![A, B, N]⟩ ![0, 1, 2] b2 (broadcastInDim ⟨3, ![A, B, 1]⟩ ![0, 1] b1
        (maximumf (broadcastInDim ⟨2, ![A, B]⟩ ![] b0 (constant (F := Ideal) ⟨0, ![]⟩ .f32 0xFF800000#32)) m)))) (ix3 n v w)
      = Ideal.exp (y (ix3 n v w) - m (ix2 n v)) := by
  pointwise
  rw [ofBits_ninf, max_eq_right bot_le]
  refine congrArg (fun j => Ideal.exp (y (ix3 n v w) - m j)) (?_ : _ = ix2 n v)
  funext a
  match a with
  | 0 => exact (dif_neg hA).trans (Fin.ext (congrArg Fin.val (dif_neg (c := A = 1) hA)))
  | 1 => exact (dif_neg hB).trans (Fin.ext (congrArg Fin.val (dif_neg (c := B = 1) hB)))

/-- The exponentials of a masked support, each row against its greatest entry: the softmax weights. -/
theorem weights_at {R : Fin 4 → Fin 2048 → Fin 2048 → ℝ} (t : Fin 4) (y : FVec Ideal S4x2048x2048 .f32)
    (hy : ∀ n v w, y (ix3 n v w) = msk (R n v) t w) (n : Fin 4) (v w : Fin 2048) :
    Host.exp (subf y (broadcastInDim S4x2048x2048 ![0, 1, 2] bcast_S4x2048x1_S4x2048x2048_0_1_2
      (broadcastInDim S4x2048x1 ![0, 1] bcast_S4x2048_S4x2048x1_0_1
        (maximumf (broadcastInDim S4x2048 ![] bcast_S_S4x2048 (constant (F := Ideal) S_ .f32 0xFF800000#32))
          (Host.reduce FloatOps.maximumf y (constant (F := Ideal) S_ .f32 0xFF800000#32) reducesTo_S4x2048x2048_S4x2048_d2 h_S_)))))
      (ix3 n v w) = (wt (R n v) t w : EReal) := by
  refine (expSub_at (by decide) (by decide) (by decide) y _ _ _ _ n v w).trans ?_
  have hg := rowGreatest_at y reducesTo_S4x2048x2048_S4x2048_d2 h_S_ n v
  rw [funext (hy n v), fold_msk] at hg
  exact (congrArg₂ (fun a b => Ideal.exp (a - b)) (hy n v w) hg).trans (exp_msk t w)

/-- The graph convolution by the softmax of a masked support. -/
theorem conv_at (d : Data) (i : Fin 3) (t : Fin 4) (e : FVec Ideal S4x2048x2048 .f32)
    (he : ∀ n v w, e (ix3 n v w) = (wt (d.S n i v) t w : EReal)) (x : FVec Ideal S4x32x2048x12 .f32)
    (hx : ∀ n c v l, x (ix4 n c v l) = (d.X n c v l : EReal)) (n : Fin 4) (c : Fin 32) (w : Fin 2048) (l : Fin 12) :
    transpose S4x32x2048x12 [0, 2, 1, 3] (Host.dotGeneral dot_S4x2048x2048_S4x32x2048x12_S4x2048x32x12_1_2_2_13_0_0 none
      (Host.divf e (broadcastInDim S4x2048x2048 ![0, 1, 2] bcast_S4x2048x1_S4x2048x2048_0_1_2
        (broadcastInDim S4x2048x1 ![0, 1] bcast_S4x2048_S4x2048x1_0_1
          (Host.reduceAdd e (constant (F := Ideal) S_ .f32 0x00000000#32) reducesTo_S4x2048x2048_S4x2048_d2 h_S_)))) x)
      transposes_S4x2048x32x12_S4x32x2048x12_0_2_1_3 (ix4 n c w l) = (d.conv n i t c w l : EReal) := by
  pointwise
  simp only [he, hx, coe_sum]
  rw [Data.conv, ← coe_sum]
  refine Finset.sum_congr rfl fun v _ => ?_
  rw [show (∑ k, wt (d.S n i v) t k) = tot (d.S n i v) t from rfl,
    Ideal.div_coe (x := ((wt (d.S n i v) t w : ℝ) : EReal)) (tot_ne (r := d.S n i v) t), ← EReal.coe_mul, ← EReal.coe_mul]
  exact congrArg Real.toEReal (congrArg (· * d.X n c v l) (mul_one_div _ _))

/-- The linear map of 32 channels. -/
theorem lin32_at (x : FVec Ideal S4x32x2048x12 .f32) (W : FVec Ideal S32x32 .f32) (b : FVec Ideal S32 .f32)
    {X : Fin 4 → Fin 32 → Fin 2048 → Fin 12 → ℝ} {M : Fin 32 → Fin 32 → ℝ} {B : Fin 32 → ℝ}
    (hx : ∀ n c v l, x (ix4 n c v l) = (X n c v l : EReal)) (hW : ∀ o c, W (ix2 o c) = (M o c : EReal))
    (hb : ∀ o, b (ix1 o) = (B o : EReal)) (n : Fin 4) (o : Fin 32) (w : Fin 2048) (l : Fin 12) :
    addf (transpose S4x32x2048x12 [0, 3, 1, 2] (Host.dotGeneral dot_S4x32x2048x12_S32x32_S4x2048x12x32_1_1_023_0_n_n none x W)
        transposes_S4x2048x12x32_S4x32x2048x12_0_3_1_2)
      (broadcastInDim S4x32x2048x12 ![0, 1, 2, 3] bcast_S1x32x1x1_S4x32x2048x12_0_1_2_3
        (broadcastInDim S1x32x1x1 ![1] bcast_S32_S1x32x1x1_1 b)) (ix4 n o w l)
      = ((∑ c, X n c w l * M o c + B o : ℝ) : EReal) := by
  pointwise
  simp only [hx, hW, hb, ← EReal.coe_mul, coe_sum, ← EReal.coe_add]

/-- The linear map of 128 channels. -/
theorem lin128_at (x : FVec Ideal S4x128x2048x12 .f32) (W : FVec Ideal S32x128 .f32) (b : FVec Ideal S32 .f32)
    {X : Fin 4 → Fin 128 → Fin 2048 → Fin 12 → ℝ} {M : Fin 32 → Fin 128 → ℝ} {B : Fin 32 → ℝ}
    (hx : ∀ n c v l, x (ix4 n c v l) = (X n c v l : EReal)) (hW : ∀ o c, W (ix2 o c) = (M o c : EReal))
    (hb : ∀ o, b (ix1 o) = (B o : EReal)) (n : Fin 4) (o : Fin 32) (w : Fin 2048) (l : Fin 12) :
    addf (transpose S4x32x2048x12 [0, 3, 1, 2] (Host.dotGeneral dot_S4x128x2048x12_S32x128_S4x2048x12x32_1_1_023_0_n_n none x W)
        transposes_S4x2048x12x32_S4x32x2048x12_0_3_1_2)
      (broadcastInDim S4x32x2048x12 ![0, 1, 2, 3] bcast_S1x32x1x1_S4x32x2048x12_0_1_2_3
        (broadcastInDim S1x32x1x1 ![1] bcast_S32_S1x32x1x1_1 b)) (ix4 n o w l)
      = ((∑ c, X n c w l * M o c + B o : ℝ) : EReal) := by
  pointwise
  simp only [hx, hW, hb, ← EReal.coe_mul, coe_sum, ← EReal.coe_add]

/-- Four arrays of 32 channels, one after the other. -/
theorem stack_at {y0 y1 y2 y3 : FVec Ideal S4x32x2048x12 .f32} (Y : Fin 4 → Fin 4 → Fin 32 → Fin 2048 → Fin 12 → ℝ)
    (h0 : ∀ n c w l, y0 (ix4 n c w l) = (Y 0 n c w l : EReal)) (h1 : ∀ n c w l, y1 (ix4 n c w l) = (Y 1 n c w l : EReal))
    (h2 : ∀ n c w l, y2 (ix4 n c w l) = (Y 2 n c w l : EReal)) (h3 : ∀ n c w l, y3 (ix4 n c w l) = (Y 3 n c w l : EReal))
    (n : Fin 4) (q : Fin 128) (w : Fin 2048) (l : Fin 12) :
    concatenate S4x128x2048x12 1 [⟨S4x32x2048x12, y0⟩, ⟨S4x32x2048x12, y1⟩, ⟨S4x32x2048x12, y2⟩, ⟨S4x32x2048x12, y3⟩]
      concatenates_S4x32x2048x12_S4x32x2048x12_S4x32x2048x12_S4x32x2048x12_S4x128x2048x12_d1 (ix4 n q w l)
      = (Y ⟨q.val / 32, by omega⟩ n ⟨q.val % 32, by omega⟩ w l : EReal) := by
  pointwise
  simp only [h0, h1, h2, h3]
  have key : ∀ (k : Fin 4) (c : Fin 32) (k' : Fin 4) (c' : Fin 32), k = k' → c = c' → (Y k n c w l : EReal) = Y k' n c' w l :=
    fun _ _ _ _ hk hc => by rw [hk, hc]
  split_ifs
  all_goals exact key _ _ _ _ (Fin.ext (by simp only [Fin.isValue, Fin.val_zero, Fin.val_one, Fin.val_two]; omega)) (Fin.ext (by simp only; omega))

/-- A sum over 128 columns, by blocks of 32. -/
theorem sum_blocks (Y : Fin 4 → Fin 32 → ℝ) (M : Fin 128 → ℝ) :
    ∑ q : Fin 128, Y ⟨q.val / 32, by omega⟩ ⟨q.val % 32, by omega⟩ * M q = ∑ k, ∑ x, Y k x * M (col k x) := by
  rw [Data.sum_digits (m := 4) (n := 32) (by norm_num)]
  refine Finset.sum_congr rfl fun k _ => Finset.sum_congr rfl fun x _ => ?_
  have hk : (⟨(x.val + 32 * k.val) / 32, by omega⟩ : Fin 4) = k := Fin.ext (by simp only; omega)
  have hx : (⟨(x.val + 32 * k.val) % 32, by omega⟩ : Fin 32) = x := Fin.ext (by simp only; omega)
  have hq : (⟨x.val + 32 * k.val, by omega⟩ : Fin 128) = col k x := Fin.ext (add_comm _ _)
  simp only [hk, hx, hq]

/-- The graph convolution of an array by a stack of unnormalised weights. -/
abbrev convOf (e : FVec Ideal S4x2048x2048 .f32) (x : FVec Ideal S4x32x2048x12 .f32) : FVec Ideal S4x32x2048x12 .f32 :=
  transpose S4x32x2048x12 [0, 2, 1, 3] (Host.dotGeneral dot_S4x2048x2048_S4x32x2048x12_S4x2048x32x12_1_2_2_13_0_0 none
    (Host.divf e (broadcastInDim S4x2048x2048 ![0, 1, 2] bcast_S4x2048x1_S4x2048x2048_0_1_2
      (broadcastInDim S4x2048x1 ![0, 1] bcast_S4x2048_S4x2048x1_0_1
        (Host.reduceAdd e (constant (F := Ideal) S_ .f32 0x00000000#32) reducesTo_S4x2048x2048_S4x2048_d2 h_S_)))) x)
    transposes_S4x2048x32x12_S4x32x2048x12_0_2_1_3

/-- One support's four graph convolutions, stacked and linearly mapped. -/
theorem sup_at (d : Data) (i : Fin 3) {x : FVec Ideal S4x32x2048x12 .f32} (hx : ∀ n c v l, x (ix4 n c v l) = (d.X n c v l : EReal))
    {e0 e1 e2 e3 : FVec Ideal S4x2048x2048 .f32} (h0 : ∀ n v w, e0 (ix3 n v w) = (wt (d.S n i v) 0 w : EReal))
    (h1 : ∀ n v w, e1 (ix3 n v w) = (wt (d.S n i v) 1 w : EReal)) (h2 : ∀ n v w, e2 (ix3 n v w) = (wt (d.S n i v) 2 w : EReal))
    (h3 : ∀ n v w, e3 (ix3 n v w) = (wt (d.S n i v) 3 w : EReal))
    {W : FVec Ideal S32x128 .f32} {b : FVec Ideal S32 .f32} (hW : ∀ o c, W (ix2 o c) = (d.Ws i o c : EReal))
    (hb : ∀ o, b (ix1 o) = (d.bs i o : EReal)) (n : Fin 4) (o : Fin 32) (w : Fin 2048) (l : Fin 12) :
    addf (transpose S4x32x2048x12 [0, 3, 1, 2] (Host.dotGeneral dot_S4x128x2048x12_S32x128_S4x2048x12x32_1_1_023_0_n_n none
        (concatenate S4x128x2048x12 1 [⟨S4x32x2048x12, convOf e0 x⟩, ⟨S4x32x2048x12, convOf e1 x⟩, ⟨S4x32x2048x12, convOf e2 x⟩,
            ⟨S4x32x2048x12, convOf e3 x⟩]
          concatenates_S4x32x2048x12_S4x32x2048x12_S4x32x2048x12_S4x32x2048x12_S4x128x2048x12_d1) W)
        transposes_S4x2048x12x32_S4x32x2048x12_0_3_1_2)
      (broadcastInDim S4x32x2048x12 ![0, 1, 2, 3] bcast_S1x32x1x1_S4x32x2048x12_0_1_2_3
        (broadcastInDim S1x32x1x1 ![1] bcast_S32_S1x32x1x1_1 b)) (ix4 n o w l)
      = (d.sup n i o w l : EReal) := by
  refine (lin128_at _ W b (stack_at (fun k n c w l => d.conv n i k c w l) (conv_at d i 0 e0 h0 x hx) (conv_at d i 1 e1 h1 x hx)
    (conv_at d i 2 e2 h2 x hx) (conv_at d i 3 e3 h3 x hx)) hW hb n o w l).trans ?_
  rw [sum_blocks (fun k c => d.conv n i k c w l) (d.Ws i o)]
  rfl

/-- The four linear maps, stacked and linearly mapped: the reference's result. -/
theorem out_at (d : Data) {y0 y1 y2 y3 : FVec Ideal S4x32x2048x12 .f32} (h0 : ∀ n c w l, y0 (ix4 n c w l) = (d.head n c w l : EReal))
    (h1 : ∀ n c w l, y1 (ix4 n c w l) = (d.sup n 0 c w l : EReal)) (h2 : ∀ n c w l, y2 (ix4 n c w l) = (d.sup n 1 c w l : EReal))
    (h3 : ∀ n c w l, y3 (ix4 n c w l) = (d.sup n 2 c w l : EReal))
    {W : FVec Ideal S32x128 .f32} {b : FVec Ideal S32 .f32} (hW : ∀ o c, W (ix2 o c) = (d.Wf o c : EReal))
    (hb : ∀ o, b (ix1 o) = (d.bf o : EReal)) (n : Fin 4) (o : Fin 32) (w : Fin 2048) (l : Fin 12) :
    addf (transpose S4x32x2048x12 [0, 3, 1, 2] (Host.dotGeneral dot_S4x128x2048x12_S32x128_S4x2048x12x32_1_1_023_0_n_n none
        (concatenate S4x128x2048x12 1 [⟨S4x32x2048x12, y0⟩, ⟨S4x32x2048x12, y1⟩, ⟨S4x32x2048x12, y2⟩, ⟨S4x32x2048x12, y3⟩]
          concatenates_S4x32x2048x12_S4x32x2048x12_S4x32x2048x12_S4x32x2048x12_S4x128x2048x12_d1) W)
        transposes_S4x2048x12x32_S4x32x2048x12_0_3_1_2)
      (broadcastInDim S4x32x2048x12 ![0, 1, 2, 3] bcast_S1x32x1x1_S4x32x2048x12_0_1_2_3
        (broadcastInDim S1x32x1x1 ![1] bcast_S32_S1x32x1x1_1 b)) (ix4 n o w l)
      = (d.out n o w l : EReal) := by
  let Y : Fin 4 → Fin 4 → Fin 32 → Fin 2048 → Fin 12 → ℝ :=
    fun k n c w l => Fin.cases (d.head n c w l) (fun i => d.sup n i c w l) k
  refine (lin128_at _ W b (stack_at Y h0 h1 h2 h3) hW hb n o w l).trans ?_
  rw [sum_blocks (fun k c => Y k n c w l) (d.Wf o), Fin.sum_univ_succ]
  rfl

end Cert.Proof

end
-- ==== Proof.RefValue.lean ====
/-
  The reference's result at an index, as a real number.
-/
module

public import proofs.«01_k».proof.Proof.Gen.ReferenceIdeal.Run
public import proofs.«01_k».proof.Proof.RefParts

@[expose] public section

set_option maxRecDepth 16384

noncomputable section

namespace Cert.Proof

open Idealize.ShloMosaic Cert.ReferenceIdeal Cert.ReferenceIdeal.Gen Cert.ReferenceIdeal.Value

variable {d : Data} {V0 : Valuation τ sig (Elt Ideal)}

/-- The reference's argument buffers hold these numbers. -/
def RefHolds (V0 : Valuation τ sig (Elt Ideal)) (d : Data) : Prop :=
  d.Is (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))

/-! ## Support 0 -/

/-- The support, sliced out of the argument. -/
theorem v6_at (h : RefHolds V0 d) (n : Fin 4) (v w : Fin 2048) :
    res_main_v6 (F := Ideal) V0 (ix3 n v w) = (d.S n 0 v w : EReal) := by
  refine Eq.trans ?_ (h.h1 n 0 v w)
  unfold res_main_v6
  pointwise

/-- Its softmax weights under mask 0. -/
theorem v40_at (h : RefHolds V0 d) (hs : ∀ n i v, Strict (d.S n i v)) (n : Fin 4) (v w : Fin 2048) :
    res_main_v40 (F := Ideal) V0 (ix3 n v w) = (wt (d.S n 0 v) 0 w : EReal) :=
  weights_at (R := fun n v => d.S n 0 v) 0 (res_main_v33 V0)
    (knn_at (fun n v => hs n 0 v) 0 (by decide) (by decide) (by decide) rfl (res_main_v6 V0) (v6_at h) _ rfl _ rfl _ rfl) n v w

/-- Its softmax weights under mask 1. -/
theorem v80_at (h : RefHolds V0 d) (hs : ∀ n i v, Strict (d.S n i v)) (n : Fin 4) (v w : Fin 2048) :
    res_main_v80 (F := Ideal) V0 (ix3 n v w) = (wt (d.S n 0 v) 1 w : EReal) :=
  weights_at (R := fun n v => d.S n 0 v) 1 (res_main_v73 V0)
    (knn_at (fun n v => hs n 0 v) 1 (by decide) (by decide) (by decide) rfl (res_main_v6 V0) (v6_at h) _ rfl _ rfl _ rfl) n v w

/-- Its softmax weights under mask 2. -/
theorem v120_at (h : RefHolds V0 d) (hs : ∀ n i v, Strict (d.S n i v)) (n : Fin 4) (v w : Fin 2048) :
    res_main_v120 (F := Ideal) V0 (ix3 n v w) = (wt (d.S n 0 v) 2 w : EReal) :=
  weights_at (R := fun n v => d.S n 0 v) 2 (res_main_v113 V0)
    (knn_at (fun n v => hs n 0 v) 2 (by decide) (by decide) (by decide) rfl (res_main_v6 V0) (v6_at h) _ rfl _ rfl _ rfl) n v w

/-- Its softmax weights without a mask. -/
theorem v133_at (h : RefHolds V0 d) (n : Fin 4) (v w : Fin 2048) :
    res_main_v133 (F := Ideal) V0 (ix3 n v w) = (wt (d.S n 0 v) 3 w : EReal) :=
  weights_at (R := fun n v => d.S n 0 v) 3 (res_main_v6 V0) (fun n v w => (v6_at h n v w).trans (msk_three (r := d.S n 0 v) w).symm) n v w

/-! ## Support 1 -/

/-- The support, sliced out of the argument. -/
theorem v147_at (h : RefHolds V0 d) (n : Fin 4) (v w : Fin 2048) :
    res_main_v147 (F := Ideal) V0 (ix3 n v w) = (d.S n 1 v w : EReal) := by
  refine Eq.trans ?_ (h.h1 n 1 v w)
  unfold res_main_v147
  pointwise

/-- Its softmax weights under mask 0. -/
theorem v181_at (h : RefHolds V0 d) (hs : ∀ n i v, Strict (d.S n i v)) (n : Fin 4) (v w : Fin 2048) :
    res_main_v181 (F := Ideal) V0 (ix3 n v w) = (wt (d.S n 1 v) 0 w : EReal) :=
  weights_at (R := fun n v => d.S n 1 v) 0 (res_main_v174 V0)
    (knn_at (fun n v => hs n 1 v) 0 (by decide) (by decide) (by decide) rfl (res_main_v147 V0) (v147_at h) _ rfl _ rfl _ rfl) n v w

/-- Its softmax weights under mask 1. -/
theorem v221_at (h : RefHolds V0 d) (hs : ∀ n i v, Strict (d.S n i v)) (n : Fin 4) (v w : Fin 2048) :
    res_main_v221 (F := Ideal) V0 (ix3 n v w) = (wt (d.S n 1 v) 1 w : EReal) :=
  weights_at (R := fun n v => d.S n 1 v) 1 (res_main_v214 V0)
    (knn_at (fun n v => hs n 1 v) 1 (by decide) (by decide) (by decide) rfl (res_main_v147 V0) (v147_at h) _ rfl _ rfl _ rfl) n v w

/-- Its softmax weights under mask 2. -/
theorem v261_at (h : RefHolds V0 d) (hs : ∀ n i v, Strict (d.S n i v)) (n : Fin 4) (v w : Fin 2048) :
    res_main_v261 (F := Ideal) V0 (ix3 n v w) = (wt (d.S n 1 v) 2 w : EReal) :=
  weights_at (R := fun n v => d.S n 1 v) 2 (res_main_v254 V0)
    (knn_at (fun n v => hs n 1 v) 2 (by decide) (by decide) (by decide) rfl (res_main_v147 V0) (v147_at h) _ rfl _ rfl _ rfl) n v w

/-- Its softmax weights without a mask. -/
theorem v274_at (h : RefHolds V0 d) (n : Fin 4) (v w : Fin 2048) :
    res_main_v274 (F := Ideal) V0 (ix3 n v w) = (wt (d.S n 1 v) 3 w : EReal) :=
  weights_at (R := fun n v => d.S n 1 v) 3 (res_main_v147 V0) (fun n v w => (v147_at h n v w).trans (msk_three (r := d.S n 1 v) w).symm) n v w

/-! ## Support 2 -/

/-- The support, sliced out of the argument. -/
theorem v288_at (h : RefHolds V0 d) (n : Fin 4) (v w : Fin 2048) :
    res_main_v288 (F := Ideal) V0 (ix3 n v w) = (d.S n 2 v w : EReal) := by
  refine Eq.trans ?_ (h.h1 n 2 v w)
  unfold res_main_v288
  pointwise

/-- Its softmax weights under mask 0. -/
theorem v322_at (h : RefHolds V0 d) (hs : ∀ n i v, Strict (d.S n i v)) (n : Fin 4) (v w : Fin 2048) :
    res_main_v322 (F := Ideal) V0 (ix3 n v w) = (wt (d.S n 2 v) 0 w : EReal) :=
  weights_at (R := fun n v => d.S n 2 v) 0 (res_main_v315 V0)
    (knn_at (fun n v => hs n 2 v) 0 (by decide) (by decide) (by decide) rfl (res_main_v288 V0) (v288_at h) _ rfl _ rfl _ rfl) n v w

/-- Its softmax weights under mask 1. -/
theorem v362_at (h : RefHolds V0 d) (hs : ∀ n i v, Strict (d.S n i v)) (n : Fin 4) (v w : Fin 2048) :
    res_main_v362 (F := Ideal) V0 (ix3 n v w) = (wt (d.S n 2 v) 1 w : EReal) :=
  weights_at (R := fun n v => d.S n 2 v) 1 (res_main_v355 V0)
    (knn_at (fun n v => hs n 2 v) 1 (by decide) (by decide) (by decide) rfl (res_main_v288 V0) (v288_at h) _ rfl _ rfl _ rfl) n v w

/-- Its softmax weights under mask 2. -/
theorem v402_at (h : RefHolds V0 d) (hs : ∀ n i v, Strict (d.S n i v)) (n : Fin 4) (v w : Fin 2048) :
    res_main_v402 (F := Ideal) V0 (ix3 n v w) = (wt (d.S n 2 v) 2 w : EReal) :=
  weights_at (R := fun n v => d.S n 2 v) 2 (res_main_v395 V0)
    (knn_at (fun n v => hs n 2 v) 2 (by decide) (by decide) (by decide) rfl (res_main_v288 V0) (v288_at h) _ rfl _ rfl _ rfl) n v w

/-- Its softmax weights without a mask. -/
theorem v415_at (h : RefHolds V0 d) (n : Fin 4) (v w : Fin 2048) :
    res_main_v415 (F := Ideal) V0 (ix3 n v w) = (wt (d.S n 2 v) 3 w : EReal) :=
  weights_at (R := fun n v => d.S n 2 v) 3 (res_main_v288 V0) (fun n v w => (v288_at h n v w).trans (msk_three (r := d.S n 2 v) w).symm) n v w

/-! ## The result -/

/-- The reference's result is the sum of the final linear map. -/
theorem reference_at (h : RefHolds V0 d) (hs : ∀ n i v, Strict (d.S n i v)) (n : Fin 4) (o : Fin 32) (w : Fin 2048) (l : Fin 12) :
    addf (F := Ideal) (φ := .f32) (transpose S4x32x2048x12 [0, 3, 1, 2] (Host.dotGeneral (φ₁ := .f32) (φ₂ := .f32) dot_S4x128x2048x12_S32x128_S4x2048x12x32_1_1_023_0_n_n none
        (res_main_v428 (F := Ideal) V0) (V0 (Proc.devRef .tc main_arg10))) transposes_S4x2048x12x32_S4x32x2048x12_0_3_1_2)
      (broadcastInDim S4x32x2048x12 ![0, 1, 2, 3] bcast_S1x32x1x1_S4x32x2048x12_0_1_2_3
        (broadcastInDim S1x32x1x1 ![1] bcast_S32_S1x32x1x1_1 (V0 (Proc.devRef .tc main_arg11)))) (ix4 n o w l)
      = (d.out n o w l : EReal) :=
  out_at d (lin32_at _ _ _ h.h0 h.h2 h.h3)
    (sup_at d 0 h.h0 (v40_at h hs) (v80_at h hs) (v120_at h hs) (v133_at h) h.h4 h.h5)
    (sup_at d 1 h.h0 (v181_at h hs) (v221_at h hs) (v261_at h hs) (v274_at h) h.h6 h.h7)
    (sup_at d 2 h.h0 (v322_at h hs) (v362_at h hs) (v402_at h hs) (v415_at h) h.h8 h.h9) h.h10 h.h11 n o w l

end Cert.Proof

end
-- ==== Proof.Pre.lean ====
/-
  What the precondition says of the inputs: every entry is a real number, and in every row of every support the 40
  greatest entries are distinct and above the rest.
-/
module

public import proofs.«01_k».proof.Pre_inputs_ok
public import proofs.«01_k».proof.Proof.TopK
public import proofs.«01_k».proof.Proof.Spec

@[expose] public section

noncomputable section

namespace Cert.Proof

open Idealize.ShloMosaic

/-- Every entry's absolute value lies below infinity. -/
def Finite {s : Shape} (x : FVec Ideal s .f32) : Prop :=
  ∃ b, cmpf .olt (Host.absf x) (broadcastInDim s ![] b (constant (F := Ideal) ⟨0, ![]⟩ .f32 0x7F800000#32)) = fun _ => 1#1

/-- A truth value printed as a bit. -/
theorem of_ofBool {p : Prop} [Decidable p] (h : BitVec.ofBool (decide p) = 1#1) : p := by
  by_contra hp
  rw [decide_eq_false hp] at h
  exact absurd h (by decide)

/-- A finite array's entries are real numbers. -/
theorem Finite.real {s : Shape} {x : FVec Ideal s .f32} (h : Finite x) (i : s.Idx) : x i = ((x i).toReal : EReal) := by
  obtain ⟨b, h⟩ := h
  have hi : max (x i) (-(x i)) < Ideal.ofBits .f32 0x7F800000#32 := of_ofBool (congrFun h i)
  rw [show Ideal.ofBits .f32 0x7F800000#32 = ⊤ by simp [Ideal.ofBits, Ideal.ieee], max_lt_iff] at hi
  refine (EReal.coe_toReal hi.1.ne fun hb => ?_).symm
  rw [hb] at hi
  exact absurd hi.2 (by simp)

/-- Inputs that satisfy the precondition are real numbers whose support rows have 40 distinct greatest entries. -/
theorem data_of {x0 : FVec Ideal ⟨4, ![4, 32, 2048, 12]⟩ .f32}
    {x1 : FVec Ideal ⟨4, ![4, 3, 2048, 2048]⟩ .f32}
    {x2 : FVec Ideal ⟨2, ![32, 32]⟩ .f32}
    {x3 : FVec Ideal ⟨1, ![32]⟩ .f32}
    {x4 : FVec Ideal ⟨2, ![32, 128]⟩ .f32}
    {x5 : FVec Ideal ⟨1, ![32]⟩ .f32}
    {x6 : FVec Ideal ⟨2, ![32, 128]⟩ .f32}
    {x7 : FVec Ideal ⟨1, ![32]⟩ .f32}
    {x8 : FVec Ideal ⟨2, ![32, 128]⟩ .f32}
    {x9 : FVec Ideal ⟨1, ![32]⟩ .f32}
    {x10 : FVec Ideal ⟨2, ![32, 128]⟩ .f32}
    {x11 : FVec Ideal ⟨1, ![32]⟩ .f32}
    (h0 : Finite x0)
    (h1 : Finite x1)
    (h2 : Finite x2)
    (h3 : Finite x3)
    (h4 : Finite x4)
    (h5 : Finite x5)
    (h6 : Finite x6)
    (h7 : Finite x7)
    (h8 : Finite x8)
    (h9 : Finite x9)
    (h10 : Finite x10)
    (h11 : Finite x11)
    {f : Shape.Slices ⟨4, ![4, 3, 2048, 2048]⟩ (fun _ => 0) ⟨4, ![4, 3, 2048, 41]⟩}
    {g : Shape.Slices ⟨4, ![4, 3, 2048, 41]⟩ ![0, 0, 0, 1] ⟨4, ![4, 3, 2048, 40]⟩}
    {g' : Shape.Slices ⟨4, ![4, 3, 2048, 41]⟩ ![0, 0, 0, 0] ⟨4, ![4, 3, 2048, 40]⟩}
    (h : cmpf .olt
      (extractStridedSlice ⟨4, ![4, 3, 2048, 40]⟩ ![0, 0, 0, 1]
        (Host.topK ⟨4, ![4, 3, 2048, 41]⟩ 3 (FloatOps.cmpfTotal (F := Ideal) (φ := .f32) .gt) x1 f).1 g)
      (extractStridedSlice ⟨4, ![4, 3, 2048, 40]⟩ ![0, 0, 0, 0]
        (Host.topK ⟨4, ![4, 3, 2048, 41]⟩ 3 (FloatOps.cmpfTotal (F := Ideal) (φ := .f32) .gt) x1 f).1 g') = fun _ => 1#1) :
    ∃ d : Data, d.Is x0 x1 x2 x3 x4 x5 x6 x7 x8 x9 x10 x11 ∧ ∀ n i v, Strict (d.S n i v) := by
  let d : Data :=
    { X := fun n c v l => (x0 (ix4 n c v l)).toReal
      S := fun n i v w => (x1 (ix4 n i v w)).toReal
      W0 := fun o c => (x2 (ix2 o c)).toReal
      b0 := fun o => (x3 (ix1 o)).toReal
      Ws := fun i o q => (![x4, x6, x8] i (ix2 o q)).toReal
      bs := fun i o => (![x5, x7, x9] i (ix1 o)).toReal
      Wf := fun o q => (x10 (ix2 o q)).toReal
      bf := fun o => (x11 (ix1 o)).toReal }
  refine ⟨d, ⟨fun _ _ _ _ => h0.real _, fun _ _ _ _ => h1.real _, fun _ _ => h2.real _, fun _ => h3.real _,
    fun _ _ => h4.real _, fun _ => h5.real _, fun _ _ => h6.real _, fun _ => h7.real _, fun _ _ => h8.real _,
    fun _ => h9.real _, fun _ _ => h10.real _, fun _ => h11.real _⟩, fun n i v j hj => ?_⟩
  have ht : ∀ q : Fin 41, (Host.topK ⟨4, ![4, 3, 2048, 41]⟩ 3 (FloatOps.cmpfTotal (F := Ideal) (φ := .f32) .gt) x1 f).1 (ix4 n i v q)
      = (nth (d.S n i v) q.val : EReal) := fun q =>
    (topK4_at (FloatOps.cmpfTotal (F := Ideal) (φ := .f32) .gt) x1 n i v (by decide) f q _
      (sorted_coe fun w => h1.real (ix4 n i v w))).trans
      ((h1.real _).trans (congrArg Real.toEReal (nth_eq' (r := d.S n i v) (by omega)).symm))
  have hi := of_ofBool (congrFun h (ix4 n i v ⟨j, hj⟩))
  have e1 : extractStridedSlice ⟨4, ![4, 3, 2048, 40]⟩ ![0, 0, 0, 1]
      (Host.topK ⟨4, ![4, 3, 2048, 41]⟩ 3 (FloatOps.cmpfTotal (F := Ideal) (φ := .f32) .gt) x1 f).1 g (ix4 n i v ⟨j, hj⟩)
      = (nth (d.S n i v) (j + 1) : EReal) := by
    refine Eq.trans ?_ (ht ⟨j + 1, by omega⟩)
    pointwise
    exact congrArg (fun q => (Host.topK ⟨4, ![4, 3, 2048, 41]⟩ 3 (FloatOps.cmpfTotal (F := Ideal) (φ := .f32) .gt) x1 f).1 (ix4 n i v q))
      (Fin.ext (add_comm 1 j))
  have e0 : extractStridedSlice ⟨4, ![4, 3, 2048, 40]⟩ ![0, 0, 0, 0]
      (Host.topK ⟨4, ![4, 3, 2048, 41]⟩ 3 (FloatOps.cmpfTotal (F := Ideal) (φ := .f32) .gt) x1 f).1 g' (ix4 n i v ⟨j, hj⟩)
      = (nth (d.S n i v) j : EReal) := by
    refine Eq.trans ?_ (ht ⟨j, by omega⟩)
    pointwise
  exact EReal.coe_lt_coe_iff.1 ((e1.symm.trans_lt hi).trans_eq e0)

end Cert.Proof

end
-- ==== Proof.Algebraic.lean ====
/-
  The value claim: over the extended reals, on inputs that satisfy the precondition, the kernel and the reference compute
  the same array.
-/
module

public import proofs.«01_k».proof.Proof.Frames
public import proofs.«01_k».proof.Proof.Grid
public import proofs.«01_k».proof.Proof.RefValue
public import proofs.«01_k».proof.Proof.Pre

@[expose] public section

set_option maxRecDepth 16384

noncomputable section

namespace Cert.Proof

open Idealize.ShloMosaic Idealize.SL.Sem

/-- Inputs that satisfy the precondition hold real numbers whose support rows have 40 distinct greatest entries. -/
theorem holds_of_pre {m : (ℓ : Loc Cert.KernelIdeal.nD Cert.KernelIdeal.τ Cert.KernelIdeal.sig) → Buf (Elt Ideal) ℓ}
    (hpre : Cert.Pre_KernelIdeal_inputs_ok m) (c : Dev Cert.KernelIdeal.nD) :
    ∃ d : Data, Holds (fun b => m (c, b)) d ∧ ∀ n i v, Strict (d.S n i v) := by
  have hp := hpre c
  exact data_of ⟨_, hp.1⟩ ⟨_, hp.2.1⟩ ⟨_, hp.2.2.1⟩ ⟨_, hp.2.2.2.1⟩ ⟨_, hp.2.2.2.2.1⟩ ⟨_, hp.2.2.2.2.2.1⟩ ⟨_, hp.2.2.2.2.2.2.1⟩ ⟨_, hp.2.2.2.2.2.2.2.1⟩ ⟨_, hp.2.2.2.2.2.2.2.2.1⟩ ⟨_, hp.2.2.2.2.2.2.2.2.2.1⟩ ⟨_, hp.2.2.2.2.2.2.2.2.2.2.1⟩ ⟨_, hp.2.2.2.2.2.2.2.2.2.2.2.1⟩ hp.2.2.2.2.2.2.2.2.2.2.2.2

/-- The kernel's run: its result is what the lines after the grid leave of it. -/
theorem kernel_result (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v172)
          = Pipeline.afterTail₀ Cert.KernelIdeal.cfgs (Cert.KernelIdeal.Gen.dats m) 0 (Cert.KernelIdeal.Gen.V0 m)
            [Cert.KernelIdeal.Gen.hostOps1] c Cert.KernelIdeal.main_v172) :=
  (θ_run (Cert.KernelIdeal.defs (F := Ideal)) _ _).mono
    (fun r h c => (h c).2 Cert.KernelIdeal.main_v172 (Pipeline.mem_restRefs_of _ (by decide) (by decide)))
    (Cert.KernelIdeal.Gen.run_main (F := Ideal) m g)

/-- On inputs that satisfy the precondition the two programs end with equal results. -/
theorem algebraic : Cert.algebraic_KernelIdeal_ReferenceIdeal_pre_inputs_ok := by
  intro m g m' g' hpre hargs
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v172,
    (θ_run (Cert.KernelIdeal.defs (F := Ideal)) _ _).mono (fun r h c => ⟨h.1 c, h.2 c⟩)
      (θ_run_and (kernel_result m g) (Cert.KernelIdeal.Gen.unchanged (F := Ideal) m g)), ?_⟩
  refine (θ_run (Cert.ReferenceIdeal.defs (F := Ideal)) _ _).mono (fun r h c => ⟨(h c).1.trans ?_, (h c).2⟩)
    (Cert.ReferenceIdeal.Value.run (F := Ideal) m' g')
  obtain ⟨d, hd, hs⟩ := holds_of_pre hpre c
  obtain ⟨a0, a1, a2, a3, a4, a5, a6, a7, a8, a9, a10, a11⟩ := hargs c
  have hr : RefHolds (StableHlo.launchContents m' c) d := Data.Is.congr hd a0 a1 a2 a3 a4 a5 a6 a7 a8 a9 a10 a11
  funext j
  rw [eq_ix4 j]
  exact (reference_at hr hs _ _ _ _).trans (result_at hd hs _ _ _ _).symm

end Cert.Proof

end
-- ==== Proof.lean ====
module

public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, preFacts, frame_p, frame_pi, frame_pi_pre,
    frame_ri, frame_ri_pre, preserves, algebraic⟩

end Cert.Proof

end
